-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_exact_pre_in_range [hKernelIdeal : Cert.KernelIdeal.Facts] [hPre_in_range : Cert.Pre_in_range.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v17))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_near_exact : Cert.Post_near_exact.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_near_exact_pre_in_range (hKernelIdeal := hKernelIdeal) (hPre_in_range := hPre_in_range) (hPost_near_exact := hPost_near_exact)
-- ==== Post_near_exact.lean ====
abbrev S16x262144x1 : Shape := ⟨3, ![16, 262144, 1]⟩
abbrev S16x262144x2 : Shape := ⟨3, ![16, 262144, 2]⟩
abbrev S_ : Shape := ⟨0, ![]⟩
abbrev S16x262144 : Shape := ⟨2, ![16, 262144]⟩
abbrev S16x262144x1x1 : Shape := ⟨4, ![16, 262144, 1, 1]⟩
abbrev S1 : Shape := ⟨1, ![1]⟩
abbrev S1x1x1x1 : Shape := ⟨4, ![1, 1, 1, 1]⟩

class Facts : Prop where
  shapeCasts_S16x262144x1_S16x262144 : S16x262144x1.ShapeCasts S16x262144
  bcast_S_S16x262144 : S_.BroadcastsInDim S16x262144 (![] : Fin 0 → Fin S16x262144.rank)
  natLt_1_32 : 1 < 32
  reducesTo_S16x262144x2_S16x262144_d2 : S16x262144x2.ReducesTo [2] S16x262144
  h_S_ : 0 < S_.numel
  bcast_S16x262144_S16x262144x1_0_1 : S16x262144.BroadcastsInDim S16x262144x1 (![0, 1] : Fin 2 → Fin S16x262144x1.rank)
  bcast_S16x262144x1_S16x262144x2_0_1_2 : S16x262144x1.BroadcastsInDim S16x262144x2 (![0, 1, 2] : Fin 3 → Fin S16x262144x2.rank)
  bcast_S_S16x262144x1 : S_.BroadcastsInDim S16x262144x1 (![] : Fin 0 → Fin S16x262144x1.rank)
  shapeCasts_S16x262144x1_S16x262144x1x1 : S16x262144x1.ShapeCasts S16x262144x1x1
  bcast_S_S16x262144x1x1 : S_.BroadcastsInDim S16x262144x1x1 (![] : Fin 0 → Fin S16x262144x1x1.rank)
  bcast_S1_S1x1x1x1_3 : S1.BroadcastsInDim S1x1x1x1 (![3] : Fin 1 → Fin S1x1x1x1.rank)
  bcast_S1x1x1x1_S16x262144x1x1_0_1_2_3 : S1x1x1x1.BroadcastsInDim S16x262144x1x1 (![0, 1, 2, 3] : Fin 4 → Fin S16x262144x1x1.rank)
  reducesTo_S16x262144x1x1_S16x262144x1_d3 : S16x262144x1x1.ReducesTo [3] S16x262144x1
  reducesTo_S16x262144_S_d0_1 : S16x262144.ReducesTo [0, 1] S_
  gather_S16x262144x2_S16x262144x1x1_S16x262144x1_n_2_01_01_2_3_111_wf : GatherDims.WF S16x262144x2 S16x262144x1x1 S16x262144x1 [] [2] [0, 1] [2] [0, 1] 3 ![1, 1, 1]

variable [Facts]

def gather_S16x262144x2_S16x262144x1x1_S16x262144x1_n_2_01_01_2_3_111 : GatherDims S16x262144x2 S16x262144x1x1 S16x262144x1 where
  offsetDims := []
  collapsedSliceDims := [2]
  operandBatchingDims := [0, 1]
  startIndicesBatchingDims := [0, 1]
  startIndexMap := [2]
  indexVectorDim := 3
  sliceSizes := ![1, 1, 1]
  wf := gather_S16x262144x2_S16x262144x1x1_S16x262144x1_n_2_01_01_2_3_111_wf
def fn_take_along_axis {F : FTy → Type} [FloatOps F] (arg0 : FVec F S16x262144x2 .f32) (arg1 : IVec S16x262144x1 32) : FVec F S16x262144x1 .f32 :=
  let c : IVec S_ 32 := constantI S_ 32 0#32
  let v0 : IVec S16x262144x1 32 := broadcastInDim S16x262144x1 ![] bcast_S_S16x262144x1 c
  let v1 : IVec S16x262144x1 1 := cmpi .slt arg1 v0
  let c_0 : IVec S_ 32 := constantI S_ 32 2#32
  let v2 : IVec S16x262144x1 32 := broadcastInDim S16x262144x1 ![] bcast_S_S16x262144x1 c_0
  let v3 : IVec S16x262144x1 32 := addi arg1 v2
  let v4 : IVec S16x262144x1 32 := select v1 v3 arg1
  let v5 : IVec S16x262144x1x1 32 := shapeCast S16x262144x1x1 v4 shapeCasts_S16x262144x1_S16x262144x1x1
  let c_1 : IVec S1 32 := constantI S1 32 1#32
  let c_2 : IVec S_ 32 := constantI S_ 32 0#32
  let v6 : IVec S16x262144x1x1 32 := broadcastInDim S16x262144x1x1 ![] bcast_S_S16x262144x1x1 c_2
  let v7 : IVec S16x262144x1x1 1 := cmpi .sge v5 v6
  let v8 : IVec S1x1x1x1 32 := broadcastInDim S1x1x1x1 ![3] bcast_S1_S1x1x1x1_3 c_1
  let v9 : IVec S16x262144x1x1 32 := broadcastInDim S16x262144x1x1 ![0, 1, 2, 3] bcast_S1x1x1x1_S16x262144x1x1_0_1_2_3 v8
  let v10 : IVec S16x262144x1x1 1 := cmpi .sle v5 v9
  let v11 : IVec S16x262144x1x1 1 := andi v7 v10
  let c_3 : IVec S_ 1 := constantI S_ 1 1#1
  let v12 : IVec S16x262144x1 1 := (fun x v => Host.reduce IntOp.andi x v reducesTo_S16x262144x1x1_S16x262144x1_d3 h_S_) v11 c_3
  let v13 : FVec F S16x262144x1 .f32 := (fun x i => Host.gather gather_S16x262144x2_S16x262144x1x1_S16x262144x1_n_2_01_01_2_3_111 x i) arg0 v5
  let cst : FVec F S_ .f32 := constant S_ .f32 0x7FC00000#32
  let v14 : FVec F S16x262144x1 .f32 := broadcastInDim S16x262144x1 ![] bcast_S_S16x262144x1 cst
  let v15 : FVec F S16x262144x1 .f32 := select v12 v13 v14
  v15

def fn_where {F : FTy → Type} [FloatOps F] (arg0 : IVec S_ 1) (arg1 : FVec F S_ .f32) (arg2 : FVec F S_ .f32) : FVec F S_ .f32 :=
  let v0 : FVec F S_ .f32 := select arg0 arg1 arg2
  v0

def fn_part1 {F : FTy → Type} [FloatOps F] (main_arg2 : FVec F S_ .f32) (main_v6 : FVec F S16x262144 .f32) (main_v19 : FVec F S16x262144 .f32) : IVec S_ 1 :=
  let main_v20 : FVec F S16x262144 .f32 := Host.negf main_v19
  let main_cst_3 : FVec F S_ .f32 := constant S_ .f32 0x00000000#32
  let main_v21 : FVec F S_ .f32 := (fun x v => Host.reduceAdd x v reducesTo_S16x262144_S_d0_1 h_S_) main_v6 main_cst_3
  let main_cst_4 : FVec F S_ .f32 := constant S_ .f32 0x00000000#32
  let main_v22 : IVec S_ 1 := cmpf .ogt main_v21 main_cst_4
  let main_v23 : FVec F S16x262144 .f32 := mulf main_v20 main_v6
  let main_cst_5 : FVec F S_ .f32 := constant S_ .f32 0x00000000#32
  let main_v24 : FVec F S_ .f32 := (fun x v => Host.reduceAdd x v reducesTo_S16x262144_S_d0_1 h_S_) main_v23 main_cst_5
  let main_cst_6 : FVec F S_ .f32 := constant S_ .f32 0x3F800000#32
  let main_v25 : FVec F S_ .f32 := maximumf main_v21 main_cst_6
  let main_v26 : FVec F S_ .f32 := Host.divf main_v24 main_v25
  let main_cst_7 : FVec F S_ .f32 := constant S_ .f32 0x00000000#32
  let main_v27 : FVec F S_ .f32 := fn_where (F := F) main_v22 main_v26 main_cst_7
  let main_v28 : FVec F S_ .f32 := subf main_arg2 main_v27
  let main_v29 : FVec F S_ .f32 := Host.absf main_v28
  let main_cst_8 : FVec F S_ .f32 := constant S_ .f32 0x3951B717#32
  let main_v30 : IVec S_ 1 := cmpf .ole main_v29 main_cst_8
  main_v30

def fn {F : FTy → Type} [FloatOps F] (main_arg0 : FVec F S16x262144x1 .f32) (main_arg1 : FVec F S16x262144x2 .f32) (main_arg2 : FVec F S_ .f32) : IVec S_ 1 :=
  let main_v0 : FVec F S16x262144 .f32 := shapeCast S16x262144 main_arg0 shapeCasts_S16x262144x1_S16x262144
  let main_cst : FVec F S_ .f32 := constant S_ .f32 0x3F800000#32
  let main_v1 : FVec F S16x262144 .f32 := broadcastInDim S16x262144 ![] bcast_S_S16x262144 main_cst
  let main_v2 : IVec S16x262144 1 := cmpf .oeq main_v0 main_v1
  let main_v3 : IVec S16x262144 32 := (extui 32 · natLt_1_32) main_v2
  let main_cst_0 : FVec F S_ .f32 := constant S_ .f32 0x00000000#32
  let main_v4 : FVec F S16x262144 .f32 := broadcastInDim S16x262144 ![] bcast_S_S16x262144 main_cst_0
  let main_v5 : IVec S16x262144 1 := cmpf .une main_v0 main_v4
  let main_v6 : FVec F S16x262144 .f32 := uitofp .f32 main_v5
  let main_cst_1 : FVec F S_ .f32 := constant S_ .f32 0xFF800000#32
  let main_v7 : FVec F S16x262144 .f32 := (fun x v => Host.reduce FloatOps.maximumf x v reducesTo_S16x262144x2_S16x262144_d2 h_S_) main_arg1 main_cst_1
  let main_v8 : FVec F S16x262144x1 .f32 := broadcastInDim S16x262144x1 ![0, 1] bcast_S16x262144_S16x262144x1_0_1 main_v7
  let main_v9 : FVec F S16x262144x2 .f32 := broadcastInDim S16x262144x2 ![0, 1, 2] bcast_S16x262144x1_S16x262144x2_0_1_2 main_v8
  let main_v10 : FVec F S16x262144x2 .f32 := subf main_arg1 main_v9
  let main_v11 : FVec F S16x262144x2 .f32 := Host.exp main_v10
  let main_cst_2 : FVec F S_ .f32 := constant S_ .f32 0x00000000#32
  let main_v12 : FVec F S16x262144 .f32 := (fun x v => Host.reduceAdd x v reducesTo_S16x262144x2_S16x262144_d2 h_S_) main_v11 main_cst_2
  let main_v13 : FVec F S16x262144x1 .f32 := broadcastInDim S16x262144x1 ![0, 1] bcast_S16x262144_S16x262144x1_0_1 main_v12
  let main_v14 : FVec F S16x262144x1 .f32 := Host.log main_v13
  let main_v15 : FVec F S16x262144x2 .f32 := broadcastInDim S16x262144x2 ![0, 1, 2] bcast_S16x262144x1_S16x262144x2_0_1_2 main_v14
  let main_v16 : FVec F S16x262144x2 .f32 := subf main_v10 main_v15
  let main_v17 : IVec S16x262144x1 32 := broadcastInDim S16x262144x1 ![0, 1] bcast_S16x262144_S16x262144x1_0_1 main_v3
  let main_v18 : FVec F S16x262144x1 .f32 := fn_take_along_axis (F := F) main_v16 main_v17
  let main_v19 : FVec F S16x262144 .f32 := shapeCast S16x262144 main_v18 shapeCasts_S16x262144x1_S16x262144
  fn_part1 (F := F) main_arg2 main_v6 main_v19
-- ==== Pre_in_range.lean ====
abbrev S16x262144x1 : Shape := ⟨3, ![16, 262144, 1]⟩
abbrev S16x262144x2 : Shape := ⟨3, ![16, 262144, 2]⟩
abbrev S_ : Shape := ⟨0, ![]⟩

class Facts : Prop where
  bcast_S_S16x262144x1 : S_.BroadcastsInDim S16x262144x1 (![] : Fin 0 → Fin S16x262144x1.rank)
  reducesTo_S16x262144x1_S_d0_1_2 : S16x262144x1.ReducesTo [0, 1, 2] S_
  h_S_ : 0 < S_.numel
  bcast_S_S16x262144x2 : S_.BroadcastsInDim S16x262144x2 (![] : Fin 0 → Fin S16x262144x2.rank)
  reducesTo_S16x262144x2_S_d0_1_2 : S16x262144x2.ReducesTo [0, 1, 2] S_

variable [Facts]

def fn {F : FTy → Type} [FloatOps F] (main_arg0 : FVec F S16x262144x1 .f32) (main_arg1 : FVec F S16x262144x2 .f32) : IVec S_ 1 :=
  let main_cst : FVec F S_ .f32 := constant S_ .f32 0xBF800000#32
  let main_v0 : FVec F S16x262144x1 .f32 := broadcastInDim S16x262144x1 ![] bcast_S_S16x262144x1 main_cst
  let main_v1 : IVec S16x262144x1 1 := cmpf .oeq main_arg0 main_v0
  let main_cst_0 : FVec F S_ .f32 := constant S_ .f32 0x00000000#32
  let main_v2 : FVec F S16x262144x1 .f32 := broadcastInDim S16x262144x1 ![] bcast_S_S16x262144x1 main_cst_0
  let main_v3 : IVec S16x262144x1 1 := cmpf .oeq main_arg0 main_v2
  let main_v4 : IVec S16x262144x1 1 := ori main_v1 main_v3
  let main_cst_1 : FVec F S_ .f32 := constant S_ .f32 0x3F800000#32
  let main_v5 : FVec F S16x262144x1 .f32 := broadcastInDim S16x262144x1 ![] bcast_S_S16x262144x1 main_cst_1
  let main_v6 : IVec S16x262144x1 1 := cmpf .oeq main_arg0 main_v5
  let main_v7 : IVec S16x262144x1 1 := ori main_v4 main_v6
  let main_c : IVec S_ 1 := constantI S_ 1 1#1
  let main_v8 : IVec S_ 1 := (fun x v => Host.reduce IntOp.andi x v reducesTo_S16x262144x1_S_d0_1_2 h_S_) main_v7 main_c
  let main_v9 : FVec F S16x262144x2 .f32 := Host.absf main_arg1
  let main_cst_2 : FVec F S_ .f32 := constant S_ .f32 0x7F800000#32
  let main_v10 : FVec F S16x262144x2 .f32 := broadcastInDim S16x262144x2 ![] bcast_S_S16x262144x2 main_cst_2
  let main_v11 : IVec S16x262144x2 1 := cmpf .olt main_v9 main_v10
  let main_c_3 : IVec S_ 1 := constantI S_ 1 1#1
  let main_v12 : IVec S_ 1 := (fun x v => Host.reduce IntOp.andi x v reducesTo_S16x262144x2_S_d0_1_2 h_S_) main_v11 main_c_3
  let main_v13 : IVec S_ 1 := andi main_v8 main_v12
  main_v13
-- ==== Kernel.lean ====
abbrev S16x262144x1 : Shape := ⟨3, ![16, 262144, 1]⟩
abbrev S16x262144x2 : Shape := ⟨3, ![16, 262144, 2]⟩
abbrev S4194304 : Shape := ⟨1, ![4194304]⟩
abbrev S16x2048x128x2 : Shape := ⟨4, ![16, 2048, 128, 2]⟩
abbrev S16x2048x2x128 : Shape := ⟨4, ![16, 2048, 2, 128]⟩
abbrev S8388608 : Shape := ⟨1, ![8388608]⟩
abbrev S32x16 : Shape := ⟨2, ![32, 16]⟩
abbrev S8192 : Shape := ⟨1, ![8192]⟩
abbrev S16384 : Shape := ⟨1, ![16384]⟩
abbrev S16 : Shape := ⟨1, ![16]⟩
abbrev S_ : Shape := ⟨0, ![]⟩
abbrev S1x16 : Shape := ⟨2, ![1, 16]⟩
abbrev S32768x128 : Shape := ⟨2, ![32768, 128]⟩
abbrev S65536x128 : Shape := ⟨2, ![65536, 128]⟩
abbrev S1024x128 : Shape := ⟨2, ![1024, 128]⟩
abbrev S2048x128 : Shape := ⟨2, ![2048, 128]⟩
abbrev S1024x2x128 : Shape := ⟨3, ![1024, 2, 128]⟩
abbrev S2x1024x128 : Shape := ⟨3, ![2, 1024, 128]⟩
abbrev S1x1024x128 : Shape := ⟨3, ![1, 1024, 128]⟩

abbrev nBuf : Table → Nat
  | .hbm => 29
  | .local .tc .vmem => 6
  | .local .scVector .vmem => 6
  | _ => 0

abbrev bufTy : (tb : Table) → Fin (nBuf tb) → BufTy
  | .hbm, ⟨0, _⟩ => ⟨S16x262144x1, .f32⟩
  | .hbm, ⟨1, _⟩ => ⟨S16x262144x2, .f32⟩
  | .hbm, ⟨2, _⟩ => ⟨S4194304, .f32⟩
  | .hbm, ⟨3, _⟩ => ⟨S16x2048x128x2, .f32⟩
  | .hbm, ⟨4, _⟩ => ⟨S16x2048x2x128, .f32⟩
  | .hbm, ⟨5, _⟩ => ⟨S8388608, .f32⟩
  | .hbm, ⟨6, _⟩ => ⟨S32x16, .f32⟩
  | .hbm, ⟨7, _⟩ => ⟨S32x16, .f32⟩
  | .hbm, ⟨8, _⟩ => ⟨S32768x128, .f32⟩
  | .hbm, ⟨9, _⟩ => ⟨S65536x128, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local .tc .vmem, ⟨0, _⟩ => ⟨S1024x128, .f32⟩
  | .local .tc .vmem, ⟨1, _⟩ => ⟨S1024x128, .f32⟩
  | .local .tc .vmem, ⟨2, _⟩ => ⟨S2048x128, .f32⟩
  | .local .tc .vmem, ⟨3, _⟩ => ⟨S2048x128, .f32⟩
  | .local .tc .vmem, ⟨4, _⟩ => ⟨S1024x128, .f32⟩
  | .local .tc .vmem, ⟨5, _⟩ => ⟨S1024x128, .f32⟩
  | .local .scVector .vmem, ⟨0, _⟩ => ⟨S8192, .f32⟩
  | .local .scVector .vmem, ⟨1, _⟩ => ⟨S8192, .f32⟩
  | .local .scVector .vmem, ⟨2, _⟩ => ⟨S16384, .f32⟩
  | .local .scVector .vmem, ⟨3, _⟩ => ⟨S16384, .f32⟩
  | .local .scVector .vmem, ⟨4, _⟩ => ⟨S16, .f32⟩
  | .local .scVector .vmem, ⟨5, _⟩ => ⟨S16, .f32⟩
  | _, _ => ⟨S16x262144x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v0_scv : Ref sig .scVector := ⟨.hbm, 2, rfl⟩
abbrev main_v3_scv : Ref sig .scVector := ⟨.hbm, 5, rfl⟩
abbrev main_v4_0_scv : Ref sig .scVector := ⟨.hbm, 6, rfl⟩
abbrev main_v4_1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c81920_i32 : BitVec 32 := 81920#32
  let v2 : BitVec 32 := Scalar.muli v1 c81920_i32
  let v3 : BitVec 32 := Scalar.addi v2 c0_i32
  ![v3.toNat]
def k0_off2 (i : grid0.Coords) (c0_i32 : BitVec 32) : Fin 1 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c81920_i32 : BitVec 32 := 81920#32
  let v2 : BitVec 32 := Scalar.muli v1 c81920_i32
  let v3 : BitVec 32 := Scalar.addi v2 c0_i32
  let v6 : BitVec 32 := Scalar.muli c2_i32_0 v3
  ![v6.toNat]
@[reducible] def k0_t1_loop : Scf.Loop 32 :=
  let c0_i32_3 : BitVec 32 := 0#32
  let c64_i32 : BitVec 32 := 64#32
  let v21 : BitVec 32 := Scalar.addi c0_i32_3 c64_i32
  let c1_i32 : BitVec 32 := 1#32
  ⟨c0_i32_3, v21, c1_i32⟩
def k0_off3 (k0_t1 : Fin k0_t1_loop.trips) (c0_i32_50 : BitVec 32) : Fin 1 → Nat :=
  let c0_i32_3 : BitVec 32 := 0#32
  let c1_i32 : BitVec 32 := 1#32
  let arg16 : BitVec 32 := Scf.iv c0_i32_3 c1_i32 k0_t1
  let c128_i32 : BitVec 32 := 128#32
  let v127 : BitVec 32 := Scalar.muli arg16 c128_i32
  let v129 : BitVec 32 := Scalar.addi v127 c0_i32_50
  let v130 : Index := Scalar.indexCast v129
  ![v130.toNat]
def k0_off4 (k0_t1 : Fin k0_t1_loop.trips) (c0_i32_51 : BitVec 32) : Fin 1 → Nat :=
  let c0_i32_3 : BitVec 32 := 0#32
  let c1_i32 : BitVec 32 := 1#32
  let arg16 : BitVec 32 := Scf.iv c0_i32_3 c1_i32 k0_t1
  let c256_i32 : BitVec 32 := 256#32
  let v128 : BitVec 32 := Scalar.muli arg16 c256_i32
  let v132 : BitVec 32 := Scalar.addi v128 c0_i32_51
  let v133 : Index := Scalar.indexCast v132
  ![v133.toNat]
def k0_off5 (k0_t1 : Fin k0_t1_loop.trips) (c0_i32_53 : BitVec 32) : Fin 1 → Nat :=
  let c0_i32_3 : BitVec 32 := 0#32
  let c1_i32 : BitVec 32 := 1#32
  let arg16 : BitVec 32 := Scf.iv c0_i32_3 c1_i32 k0_t1
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t2_loop : Scf.Loop 32 :=
  let c0_i32_6 : BitVec 32 := 0#32
  let c64_i32_7 : BitVec 32 := 64#32
  let v33 : BitVec 32 := Scalar.addi c0_i32_6 c64_i32_7
  let c1_i32_8 : BitVec 32 := 1#32
  ⟨c0_i32_6, v33, c1_i32_8⟩
def k0_off6 (k0_t2 : Fin k0_t2_loop.trips) (c0_i32_50 : BitVec 32) : Fin 1 → Nat :=
  let c0_i32_6 : BitVec 32 := 0#32
  let c1_i32_8 : BitVec 32 := 1#32
  let arg16 : BitVec 32 := Scf.iv c0_i32_6 c1_i32_8 k0_t2
  let c128_i32 : BitVec 32 := 128#32
  let v127 : BitVec 32 := Scalar.muli arg16 c128_i32
  let v129 : BitVec 32 := Scalar.addi v127 c0_i32_50
  let v130 : Index := Scalar.indexCast v129
  ![v130.toNat]
def k0_off7 (k0_t2 : Fin k0_t2_loop.trips) (c0_i32_51 : BitVec 32) : Fin 1 → Nat :=
  let c0_i32_6 : BitVec 32 := 0#32
  let c1_i32_8 : BitVec 32 := 1#32
  let arg16 : BitVec 32 := Scf.iv c0_i32_6 c1_i32_8 k0_t2
  let c256_i32 : BitVec 32 := 256#32
  let v128 : BitVec 32 := Scalar.muli arg16 c256_i32
  let v132 : BitVec 32 := Scalar.addi v128 c0_i32_51
  let v133 : Index := Scalar.indexCast v132
  ![v133.toNat]
def k0_off8 (k0_t2 : Fin k0_t2_loop.trips) (c0_i32_53 : BitVec 32) : Fin 1 → Nat :=
  let c0_i32_6 : BitVec 32 := 0#32
  let c1_i32_8 : BitVec 32 := 1#32
  let arg16 : BitVec 32 := Scf.iv c0_i32_6 c1_i32_8 k0_t2
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t3_loop : Scf.Loop 32 :=
  let c0_i32_11 : BitVec 32 := 0#32
  let c64_i32_12 : BitVec 32 := 64#32
  let v45 : BitVec 32 := Scalar.addi c0_i32_11 c64_i32_12
  let c1_i32_13 : BitVec 32 := 1#32
  ⟨c0_i32_11, v45, c1_i32_13⟩
def k0_off9 (k0_t3 : Fin k0_t3_loop.trips) (c0_i32_50 : BitVec 32) : Fin 1 → Nat :=
  let c0_i32_11 : BitVec 32 := 0#32
  let c1_i32_13 : BitVec 32 := 1#32
  let arg16 : BitVec 32 := Scf.iv c0_i32_11 c1_i32_13 k0_t3
  let c128_i32 : BitVec 32 := 128#32
  let v127 : BitVec 32 := Scalar.muli arg16 c128_i32
  let v129 : BitVec 32 := Scalar.addi v127 c0_i32_50
  let v130 : Index := Scalar.indexCast v129
  ![v130.toNat]
def k0_off10 (k0_t3 : Fin k0_t3_loop.trips) (c0_i32_51 : BitVec 32) : Fin 1 → Nat :=
  let c0_i32_11 : BitVec 32 := 0#32
  let c1_i32_13 : BitVec 32 := 1#32
  let arg16 : BitVec 32 := Scf.iv c0_i32_11 c1_i32_13 k0_t3
  let c256_i32 : BitVec 32 := 256#32
  let v128 : BitVec 32 := Scalar.muli arg16 c256_i32
  let v132 : BitVec 32 := Scalar.addi v128 c0_i32_51
  let v133 : Index := Scalar.indexCast v132
  ![v133.toNat]
def k0_off11 (k0_t3 : Fin k0_t3_loop.trips) (c0_i32_53 : BitVec 32) : Fin 1 → Nat :=
  let c0_i32_11 : BitVec 32 := 0#32
  let c1_i32_13 : BitVec 32 := 1#32
  let arg16 : BitVec 32 := Scf.iv c0_i32_11 c1_i32_13 k0_t3
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t4_loop : Scf.Loop 32 :=
  let c0_i32_16 : BitVec 32 := 0#32
  let c64_i32_17 : BitVec 32 := 64#32
  let v57 : BitVec 32 := Scalar.addi c0_i32_16 c64_i32_17
  let c1_i32_18 : BitVec 32 := 1#32
  ⟨c0_i32_16, v57, c1_i32_18⟩
def k0_off12 (k0_t4 : Fin k0_t4_loop.trips) (c0_i32_50 : BitVec 32) : Fin 1 → Nat :=
  let c0_i32_16 : BitVec 32 := 0#32
  let c1_i32_18 : BitVec 32 := 1#32
  let arg16 : BitVec 32 := Scf.iv c0_i32_16 c1_i32_18 k0_t4
  let c128_i32 : BitVec 32 := 128#32
  let v127 : BitVec 32 := Scalar.muli arg16 c128_i32
  let v129 : BitVec 32 := Scalar.addi v127 c0_i32_50
  let v130 : Index := Scalar.indexCast v129
  ![v130.toNat]
def k0_off13 (k0_t4 : Fin k0_t4_loop.trips) (c0_i32_51 : BitVec 32) : Fin 1 → Nat :=
  let c0_i32_16 : BitVec 32 := 0#32
  let c1_i32_18 : BitVec 32 := 1#32
  let arg16 : BitVec 32 := Scf.iv c0_i32_16 c1_i32_18 k0_t4
  let c256_i32 : BitVec 32 := 256#32
  let v128 : BitVec 32 := Scalar.muli arg16 c256_i32
  let v132 : BitVec 32 := Scalar.addi v128 c0_i32_51
  let v133 : Index := Scalar.indexCast v132
  ![v133.toNat]
def k0_off14 (k0_t4 : Fin k0_t4_loop.trips) (c0_i32_53 : BitVec 32) : Fin 1 → Nat :=
  let c0_i32_16 : BitVec 32 := 0#32
  let c1_i32_18 : BitVec 32 := 1#32
  let arg16 : BitVec 32 := Scf.iv c0_i32_16 c1_i32_18 k0_t4
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t5_loop : Scf.Loop 32 :=
  let c0_i32_21 : BitVec 32 := 0#32
  let c64_i32_22 : BitVec 32 := 64#32
  let v69 : BitVec 32 := Scalar.addi c0_i32_21 c64_i32_22
  let c1_i32_23 : BitVec 32 := 1#32
  ⟨c0_i32_21, v69, c1_i32_23⟩
def k0_off15 (k0_t5 : Fin k0_t5_loop.trips) (c0_i32_50 : BitVec 32) : Fin 1 → Nat :=
  let c0_i32_21 : BitVec 32 := 0#32
  let c1_i32_23 : BitVec 32 := 1#32
  let arg16 : BitVec 32 := Scf.iv c0_i32_21 c1_i32_23 k0_t5
  let c128_i32 : BitVec 32 := 128#32
  let v127 : BitVec 32 := Scalar.muli arg16 c128_i32
  let v129 : BitVec 32 := Scalar.addi v127 c0_i32_50
  let v130 : Index := Scalar.indexCast v129
  ![v130.toNat]
def k0_off16 (k0_t5 : Fin k0_t5_loop.trips) (c0_i32_51 : BitVec 32) : Fin 1 → Nat :=
  let c0_i32_21 : BitVec 32 := 0#32
  let c1_i32_23 : BitVec 32 := 1#32
  let arg16 : BitVec 32 := Scf.iv c0_i32_21 c1_i32_23 k0_t5
  let c256_i32 : BitVec 32 := 256#32
  let v128 : BitVec 32 := Scalar.muli arg16 c256_i32
  let v132 : BitVec 32 := Scalar.addi v128 c0_i32_51
  let v133 : Index := Scalar.indexCast v132
  ![v133.toNat]
def k0_off17 (k0_t5 : Fin k0_t5_loop.trips) (c0_i32_53 : BitVec 32) : Fin 1 → Nat :=
  let c0_i32_21 : BitVec 32 := 0#32
  let c1_i32_23 : BitVec 32 := 1#32
  let arg16 : BitVec 32 := Scf.iv c0_i32_21 c1_i32_23 k0_t5
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t6_loop : Scf.Loop 32 :=
  let c0_i32_26 : BitVec 32 := 0#32
  let c64_i32_27 : BitVec 32 := 64#32
  let v81 : BitVec 32 := Scalar.addi c0_i32_26 c64_i32_27
  let c1_i32_28 : BitVec 32 := 1#32
  ⟨c0_i32_26, v81, c1_i32_28⟩
def k0_off18 (k0_t6 : Fin k0_t6_loop.trips) (c0_i32_50 : BitVec 32) : Fin 1 → Nat :=
  let c0_i32_26 : BitVec 32 := 0#32
  let c1_i32_28 : BitVec 32 := 1#32
  let arg16 : BitVec 32 := Scf.iv c0_i32_26 c1_i32_28 k0_t6
  let c128_i32 : BitVec 32 := 128#32
  let v127 : BitVec 32 := Scalar.muli arg16 c128_i32
  let v129 : BitVec 32 := Scalar.addi v127 c0_i32_50
  let v130 : Index := Scalar.indexCast v129
  ![v130.toNat]
def k0_off19 (k0_t6 : Fin k0_t6_loop.trips) (c0_i32_51 : BitVec 32) : Fin 1 → Nat :=
  let c0_i32_26 : BitVec 32 := 0#32
  let c1_i32_28 : BitVec 32 := 1#32
  let arg16 : BitVec 32 := Scf.iv c0_i32_26 c1_i32_28 k0_t6
  let c256_i32 : BitVec 32 := 256#32
  let v128 : BitVec 32 := Scalar.muli arg16 c256_i32
  let v132 : BitVec 32 := Scalar.addi v128 c0_i32_51
  let v133 : Index := Scalar.indexCast v132
  ![v133.toNat]
def k0_off20 (k0_t6 : Fin k0_t6_loop.trips) (c0_i32_53 : BitVec 32) : Fin 1 → Nat :=
  let c0_i32_26 : BitVec 32 := 0#32
  let c1_i32_28 : BitVec 32 := 1#32
  let arg16 : BitVec 32 := Scf.iv c0_i32_26 c1_i32_28 k0_t6
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t7_loop : Scf.Loop 32 :=
  let c0_i32_31 : BitVec 32 := 0#32
  let c64_i32_32 : BitVec 32 := 64#32
  let v93 : BitVec 32 := Scalar.addi c0_i32_31 c64_i32_32
  let c1_i32_33 : BitVec 32 := 1#32
  ⟨c0_i32_31, v93, c1_i32_33⟩
def k0_off21 (k0_t7 : Fin k0_t7_loop.trips) (c0_i32_50 : BitVec 32) : Fin 1 → Nat :=
  let c0_i32_31 : BitVec 32 := 0#32
  let c1_i32_33 : BitVec 32 := 1#32
  let arg16 : BitVec 32 := Scf.iv c0_i32_31 c1_i32_33 k0_t7
  let c128_i32 : BitVec 32 := 128#32
  let v127 : BitVec 32 := Scalar.muli arg16 c128_i32
  let v129 : BitVec 32 := Scalar.addi v127 c0_i32_50
  let v130 : Index := Scalar.indexCast v129
  ![v130.toNat]
def k0_off22 (k0_t7 : Fin k0_t7_loop.trips) (c0_i32_51 : BitVec 32) : Fin 1 → Nat :=
  let c0_i32_31 : BitVec 32 := 0#32
  let c1_i32_33 : BitVec 32 := 1#32
  let arg16 : BitVec 32 := Scf.iv c0_i32_31 c1_i32_33 k0_t7
  let c256_i32 : BitVec 32 := 256#32
  let v128 : BitVec 32 := Scalar.muli arg16 c256_i32
  let v132 : BitVec 32 := Scalar.addi v128 c0_i32_51
  let v133 : Index := Scalar.indexCast v132
  ![v133.toNat]
def k0_off23 (k0_t7 : Fin k0_t7_loop.trips) (c0_i32_53 : BitVec 32) : Fin 1 → Nat :=
  let c0_i32_31 : BitVec 32 := 0#32
  let c1_i32_33 : BitVec 32 := 1#32
  let arg16 : BitVec 32 := Scf.iv c0_i32_31 c1_i32_33 k0_t7
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t8_loop : Scf.Loop 32 :=
  let c0_i32_36 : BitVec 32 := 0#32
  let c64_i32_37 : BitVec 32 := 64#32
  let v105 : BitVec 32 := Scalar.addi c0_i32_36 c64_i32_37
  let c1_i32_38 : BitVec 32 := 1#32
  ⟨c0_i32_36, v105, c1_i32_38⟩
def k0_off24 (k0_t8 : Fin k0_t8_loop.trips) (c0_i32_50 : BitVec 32) : Fin 1 → Nat :=
  let c0_i32_36 : BitVec 32 := 0#32
  let c1_i32_38 : BitVec 32 := 1#32
  let arg16 : BitVec 32 := Scf.iv c0_i32_36 c1_i32_38 k0_t8
  let c128_i32 : BitVec 32 := 128#32
  let v127 : BitVec 32 := Scalar.muli arg16 c128_i32
  let v129 : BitVec 32 := Scalar.addi v127 c0_i32_50
  let v130 : Index := Scalar.indexCast v129
  ![v130.toNat]
def k0_off25 (k0_t8 : Fin k0_t8_loop.trips) (c0_i32_51 : BitVec 32) : Fin 1 → Nat :=
  let c0_i32_36 : BitVec 32 := 0#32
  let c1_i32_38 : BitVec 32 := 1#32
  let arg16 : BitVec 32 := Scf.iv c0_i32_36 c1_i32_38 k0_t8
  let c256_i32 : BitVec 32 := 256#32
  let v128 : BitVec 32 := Scalar.muli arg16 c256_i32
  let v132 : BitVec 32 := Scalar.addi v128 c0_i32_51
  let v133 : Index := Scalar.indexCast v132
  ![v133.toNat]
def k0_off26 (k0_t8 : Fin k0_t8_loop.trips) (c0_i32_53 : BitVec 32) : Fin 1 → Nat :=
  let c0_i32_36 : BitVec 32 := 0#32
  let c1_i32_38 : BitVec 32 := 1#32
  let arg16 : BitVec 32 := Scf.iv c0_i32_36 c1_i32_38 k0_t8
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t9_loop : Scf.Loop 32 :=
  let c0_i32_41 : BitVec 32 := 0#32
  let c64_i32_42 : BitVec 32 := 64#32
  let v117 : BitVec 32 := Scalar.addi c0_i32_41 c64_i32_42
  let c1_i32_43 : BitVec 32 := 1#32
  ⟨c0_i32_41, v117, c1_i32_43⟩
def k0_off27 (k0_t9 : Fin k0_t9_loop.trips) (c0_i32_50 : BitVec 32) : Fin 1 → Nat :=
  let c0_i32_41 : BitVec 32 := 0#32
  let c1_i32_43 : BitVec 32 := 1#32
  let arg16 : BitVec 32 := Scf.iv c0_i32_41 c1_i32_43 k0_t9
  let c128_i32 : BitVec 32 := 128#32
  let v127 : BitVec 32 := Scalar.muli arg16 c128_i32
  let v129 : BitVec 32 := Scalar.addi v127 c0_i32_50
  let v130 : Index := Scalar.indexCast v129
  ![v130.toNat]
def k0_off28 (k0_t9 : Fin k0_t9_loop.trips) (c0_i32_51 : BitVec 32) : Fin 1 → Nat :=
  let c0_i32_41 : BitVec 32 := 0#32
  let c1_i32_43 : BitVec 32 := 1#32
  let arg16 : BitVec 32 := Scf.iv c0_i32_41 c1_i32_43 k0_t9
  let c256_i32 : BitVec 32 := 256#32
  let v128 : BitVec 32 := Scalar.muli arg16 c256_i32
  let v132 : BitVec 32 := Scalar.addi v128 c0_i32_51
  let v133 : Index := Scalar.indexCast v132
  ![v133.toNat]
def k0_off29 (k0_t9 : Fin k0_t9_loop.trips) (c0_i32_53 : BitVec 32) : Fin 1 → Nat :=
  let c0_i32_41 : BitVec 32 := 0#32
  let c1_i32_43 : BitVec 32 := 1#32
  let arg16 : BitVec 32 := Scf.iv c0_i32_41 c1_i32_43 k0_t9
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
@[reducible] def k0_t10_loop : Scf.Loop 32 :=
  let c0_i32_45 : BitVec 32 := 0#32
  let c64_i32_46 : BitVec 32 := 64#32
  let v123 : BitVec 32 := Scalar.addi c0_i32_45 c64_i32_46
  let c1_i32_47 : BitVec 32 := 1#32
  ⟨c0_i32_45, v123, c1_i32_47⟩
def k0_off30 (k0_t10 : Fin k0_t10_loop.trips) (c0_i32_50 : BitVec 32) : Fin 1 → Nat :=
  let c0_i32_45 : BitVec 32 := 0#32
  let c1_i32_47 : BitVec 32 := 1#32
  let arg16 : BitVec 32 := Scf.iv c0_i32_45 c1_i32_47 k0_t10
  let c128_i32 : BitVec 32 := 128#32
  let v127 : BitVec 32 := Scalar.muli arg16 c128_i32
  let v129 : BitVec 32 := Scalar.addi v127 c0_i32_50
  let v130 : Index := Scalar.indexCast v129
  ![v130.toNat]
def k0_off31 (k0_t10 : Fin k0_t10_loop.trips) (c0_i32_51 : BitVec 32) : Fin 1 → Nat :=
  let c0_i32_45 : BitVec 32 := 0#32
  let c1_i32_47 : BitVec 32 := 1#32
  let arg16 : BitVec 32 := Scf.iv c0_i32_45 c1_i32_47 k0_t10
  let c256_i32 : BitVec 32 := 256#32
  let v128 : BitVec 32 := Scalar.muli arg16 c256_i32
  let v132 : BitVec 32 := Scalar.addi v128 c0_i32_51
  let v133 : Index := Scalar.indexCast v132
  ![v133.toNat]
def k0_off32 (k0_t10 : Fin k0_t10_loop.trips) (c0_i32_53 : BitVec 32) : Fin 1 → Nat :=
  let c0_i32_45 : BitVec 32 := 0#32
  let c1_i32_47 : BitVec 32 := 1#32
  let arg16 : BitVec 32 := Scf.iv c0_i32_45 c1_i32_47 k0_t10
  let c256_i32 : BitVec 32 := 256#32
  let v128 : BitVec 32 := Scalar.muli arg16 c256_i32
  let c128_i32_52 : BitVec 32 := 128#32
  let v135 : BitVec 32 := Scalar.addi v128 c128_i32_52
  let v136 : BitVec 32 := Scalar.addi v135 c0_i32_53
  let v137 : Index := Scalar.indexCast v136
  ![v137.toNat]
def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_50_r0 : BitVec 32 := 0#32
  ![v1.toNat, 0]
abbrev grid1 : Pipeline.Grid := ⟨1, ![12], ![false]⟩

def cc1_transform_0 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S16x262144x1 : Shape := ⟨3, ![16, 262144, 1]⟩
abbrev S16x262144x2 : Shape := ⟨3, ![16, 262144, 2]⟩
abbrev S16x262144 : Shape := ⟨2, ![16, 262144]⟩
abbrev S_ : Shape := ⟨0, ![]⟩
abbrev S16x262144x1x1 : Shape := ⟨4, ![16, 262144, 1, 1]⟩
abbrev S1 : Shape := ⟨1, ![1]⟩
abbrev S1x1x1x1 : Shape := ⟨4, ![1, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S16x262144x1, .f32⟩
  | .hbm, ⟨1, _⟩ => ⟨S16x262144x2, .f32⟩
  | .hbm, ⟨2, _⟩ => ⟨S16x262144, .f32⟩
  | .hbm, ⟨3, _⟩ => ⟨S_, .f32⟩
  | .hbm, ⟨4, _⟩ => ⟨S16x262144, .f32⟩
  | .hbm, ⟨5, _⟩ => ⟨S16x262144, .i1⟩
  | .hbm, ⟨6, _⟩ => ⟨S16x262144, .i32⟩
  | .hbm, ⟨7, _⟩ => ⟨S_, .f32⟩
  | .hbm, ⟨8, _⟩ => ⟨S16x262144, .f32⟩
  | .hbm, ⟨9, _⟩ => ⟨S16x262144, .i1⟩
  | .hbm, ⟨10, _⟩ => ⟨S16x262144, .f32⟩
  | .hbm, ⟨11, _⟩ => ⟨S_, .f32⟩
  | .hbm, ⟨12, _⟩ => ⟨S16x262144, .f32⟩
  | .hbm, ⟨13, _⟩ => ⟨S16x262144x1, .f32⟩
  | .hbm, ⟨14, _⟩ => ⟨S16x262144x2, .f32⟩
  | .hbm, ⟨15, _⟩ => ⟨S16x262144x2, .f32⟩
  | .hbm, ⟨16, _⟩ => ⟨S16x262144x2, .f32⟩
  | .hbm, ⟨17, _⟩ => ⟨S_, .f32⟩
  | .hbm, ⟨18, _⟩ => ⟨S16x262144, .f32⟩
  | .hbm, ⟨19, _⟩ => ⟨S16x262144x1, .f32⟩
  | .hbm, ⟨20, _⟩ => ⟨S_, .f32⟩
  | .hbm, ⟨21, _⟩ => ⟨S16x262144x1, .f32⟩
  | .hbm, ⟨22, _⟩ => ⟨S16x262144x1, .f32⟩
  | .hbm, ⟨23, _⟩ => ⟨S_, .f32⟩
  | .hbm, ⟨24, _⟩ => ⟨S16x262144x1, .f32⟩
  | .hbm, ⟨25, _⟩ => ⟨S16x262144x1, .f32⟩
  | .hbm, ⟨26, _⟩ => ⟨S_, .f32⟩
  | .hbm, ⟨27, _⟩ => ⟨S16x262144x1, .f32⟩
  | .hbm, ⟨28, _⟩ => ⟨S16x262144x1, .f32⟩
  | .hbm, ⟨29, _⟩ => ⟨S16x262144x1, .f32⟩
  | .hbm, ⟨30, _⟩ => ⟨S_, .f32⟩
  | .hbm, ⟨31, _⟩ => ⟨S16x262144x1, .f32⟩
  | .hbm, ⟨32, _⟩ => ⟨S16x262144x1, .f32⟩
  | .hbm, ⟨33, _⟩ => ⟨S16x262144x1, .f32⟩
  | .hbm, ⟨34, _⟩ => ⟨S_, .f32⟩
  | .hbm, ⟨35, _⟩ => ⟨S16x262144x1, .f32⟩
  | .hbm, ⟨36, _⟩ => ⟨S16x262144x1, .f32⟩
  | .hbm, ⟨37, _⟩ => ⟨S16x262144x1, .f32⟩
  | .hbm, ⟨38, _⟩ => ⟨S_, .f32⟩
  | .hbm, ⟨39, _⟩ => ⟨S16x262144x1, .f32⟩
  | .hbm, ⟨40, _⟩ => ⟨S16x262144x1, .f32⟩
  | .hbm, ⟨41, _⟩ => ⟨S16x262144x2, .f32⟩
  | .hbm, ⟨42, _⟩ => ⟨S16x262144x2, .f32⟩
  | .hbm, ⟨43, _⟩ => ⟨S16x262144x1, .i32⟩
  | .hbm, ⟨44, _⟩ => ⟨S_, .i32⟩
  | .hbm, ⟨45, _⟩ => ⟨S16x262144x1, .i32⟩
  | .hbm, ⟨46, _⟩ => ⟨S16x262144x1, .i1⟩
  | .hbm, ⟨47, _⟩ => ⟨S_, .i32⟩
  | .hbm, ⟨48, _⟩ => ⟨S16x262144x1, .i32⟩
  | .hbm, ⟨49, _⟩ => ⟨S16x262144x1, .i32⟩
  | .hbm, ⟨50, _⟩ => ⟨S16x262144x1, .i32⟩
  | .hbm, ⟨51, _⟩ => ⟨S16x262144x1x1, .i32⟩
  | .hbm, ⟨52, _⟩ => ⟨S1, .i32⟩
  | .hbm, ⟨53, _⟩ => ⟨S_, .i32⟩
  | .hbm, ⟨54, _⟩ => ⟨S16x262144x1x1, .i32⟩
  | .hbm, ⟨55, _⟩ => ⟨S16x262144x1x1, .i1⟩
  | .hbm, ⟨56, _⟩ => ⟨S1x1x1x1, .i32⟩
  | .hbm, ⟨57, _⟩ => ⟨S16x262144x1x1, .i32⟩
  | .hbm, ⟨58, _⟩ => ⟨S16x262144x1x1, .i1⟩
  | .hbm, ⟨59, _⟩ => ⟨S16x262144x1x1, .i1⟩
  | .hbm, ⟨60, _⟩ => ⟨S_, .i1⟩
  | .hbm, ⟨61, _⟩ => ⟨S16x262144x1, .i1⟩
  | .hbm, ⟨62, _⟩ => ⟨S16x262144x1, .f32⟩
  | .hbm, ⟨63, _⟩ => ⟨S_, .f32⟩
  | .hbm, ⟨64, _⟩ => ⟨S16x262144x1, .f32⟩
  | .hbm, ⟨65, _⟩ => ⟨S16x262144x1, .f32⟩
  | .hbm, ⟨66, _⟩ => ⟨S16x262144, .f32⟩
  | .hbm, ⟨67, _⟩ => ⟨S16x262144, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .i1⟩
  | .hbm, ⟨72, _⟩ => ⟨S16x262144, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16x262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_cst : Ref sig .tc := ⟨.hbm, 63, rfl⟩
abbrev main_call0_v14 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_9 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_v37 : Ref sig .tc := ⟨.hbm, 72, rfl⟩
abbrev main_cst_11 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_v40 : Ref sig .tc := ⟨.hbm, 77, rfl⟩
abbrev main_cst_13 : Ref sig .tc := ⟨.hbm, 78, rfl⟩
abbrev main_v41 : Ref sig .tc := ⟨.hbm, 79, rfl⟩

abbrev nD : Nat := 1
abbrev τ : Topo := Topo.v7x

variable {F : FTy → Type} [FloatOps F]
-- ==== Proof.Vals.lean ====
/- The values of the SparseCore tasks, over any float arithmetic: what one pass of the counted loop makes of the
   two accumulator vectors, what a whole chunk makes of them, and what a task writes to its row of the two outputs.
   Everything is stated with the payloads of the printed body (`k0_pay2`: the loss accumulator's step on sixteen
   anchors; `k0_pay3`: the counter's). -/
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F] [Named F]

/-- The accumulators carried by the loops: sixteen partial losses, sixteen partial counts. -/
abbrev Acc (F : FTy → Type) : Type := FVec F S16 .f32 × FVec F S16 .f32

/-- Sixteen `match` entries at pass `k`, group `u`, of a chunk `x`. -/
def mRd (x : S8192.Idx → F .f32) (k : Fin 64) (u : Fin 8) : Vec F S16 .f32 := fun j =>
  x ((Rect.unit (s := S8192) (k0_off3 k (BitVec.ofNat 32 (16 * u.val))) S16.size (k0_off3_inb k u)).toLoadRect.idx j)
/-- The class-0 logits of the same sixteen anchors, -/
def lRd0 (x : S16384.Idx → F .f32) (k : Fin 64) (u : Fin 8) : Vec F S16 .f32 := fun j =>
  x ((Rect.unit (s := S16384) (k0_off4 k (BitVec.ofNat 32 (16 * u.val))) S16.size (k0_off4_inb k u)).toLoadRect.idx j)
/-- and the class-1 logits. -/
def lRd1 (x : S16384.Idx → F .f32) (k : Fin 64) (u : Fin 8) : Vec F S16 .f32 := fun j =>
  x ((Rect.unit (s := S16384) (k0_off5 k (BitVec.ofNat 32 (16 * u.val))) S16.size (k0_off5_inb k u)).toLoadRect.idx j)

/-- One group of sixteen anchors added to the accumulators. -/
def grp (mb : S8192.Idx → F .f32) (lb : S16384.Idx → F .f32) (k : Fin 64) (a : Acc F) (u : Fin 8) : Acc F :=
  (k0_pay2 a.1 (mRd mb k u) (lRd0 lb k u) (lRd1 lb k u), k0_pay3 a.2 (mRd mb k u))

/-- One pass: its eight groups in order. -/
def trip (mb : S8192.Idx → F .f32) (lb : S16384.Idx → F .f32) (k : Fin 64) (a : Acc F) : Acc F :=
  grp mb lb k (grp mb lb k (grp mb lb k (grp mb lb k (grp mb lb k (grp mb lb k (grp mb lb k (grp mb lb k a 0) 1) 2) 3) 4) 5) 6) 7

/-- The first `n` passes of a chunk. -/
def trips (mb : S8192.Idx → F .f32) (lb : S16384.Idx → F .f32) (a : Acc F) : ℕ → Acc F
  | 0 => a
  | n + 1 => if h : n < 64 then trip mb lb ⟨n, h⟩ (trips mb lb a n) else trips mb lb a n

/-- A chunk: its sixty-four passes. -/
def chunk (mb : S8192.Idx → F .f32) (lb : S16384.Idx → F .f32) (a : Acc F) : Acc F := trips mb lb a 64

/-- Chunk `r` of task `L`: its `match` entries, -/
def mCh (L : grid0.Coords) (x : S4194304.Idx → F .f32) (r : Fin 10) : S8192.Idx → F .f32 := fun j =>
  x ((Rect.unit (s := S4194304) (k0_off1 L (BitVec.ofNat 32 (8192 * r.val))) S8192.size (k0_off1_inb L r)).emb j)
/-- and its logits. -/
def lCh (L : grid0.Coords) (x : S8388608.Idx → F .f32) (r : Fin 10) : S16384.Idx → F .f32 := fun j =>
  x ((Rect.unit (s := S8388608) (k0_off2 L (BitVec.ofNat 32 (8192 * r.val))) S16384.size (k0_off2_inb L r)).emb j)

/-- One chunk of the task added to the accumulators. -/
def ch (L : grid0.Coords) (x : S4194304.Idx → F .f32) (y : S8388608.Idx → F .f32) (a : Acc F) (r : Fin 10) : Acc F :=
  chunk (mCh L x r) (lCh L y r) a

/-- The task's accumulators after its ten chunks. -/
def task (L : grid0.Coords) (x : S4194304.Idx → F .f32) (y : S8388608.Idx → F .f32) : Acc F :=
  ch L x y (ch L x y (ch L x y (ch L x y (ch L x y (ch L x y (ch L x y (ch L x y (ch L x y (ch L x y
    (k0_pay311, k0_pay312) 0) 1) 2) 3) 4) 5) 6) 7) 8) 9

end Cert.Proof

end
-- ==== Proof.Trip.lean ====
/- One pass of the SparseCore task's counted loop, run once; and the loop over a chunk. -/
module

public import proofs.«01_k».proof.Proof.Vals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The proof's own algebra: the handshakes' rounds, the pipeline's rounds, the transfers' counters. -/
abbrev UH : Type := URounds (GSem nD τ sig) ℕ
abbrev UR : Type := URounds (GSem nD τ sig) Unit
abbrev UU : Type := UH × UR × Counters

local notation "𝕄" => MT nD τ sig (HIx 1) (Elt F) ℕ UU ℕ

abbrev 𝒱₀ : Variants := Variants.none

section

variable (d : Dev nD) (L : grid0.Coords)

abbrev cV (L : grid0.Coords) : Fin τ.nSC := (L 0).castLE hcore0
abbrev jV (L : grid0.Coords) : Fin τ.nSub := (L 1).castLE hsub0
/-- The task's thread. -/
abbrev thr : Thread nD τ := V d (cV L) (jV L)

variable (arg2 : Memref sig .scVector .hbm S4194304 .f32) (harg2 : arg2.IsWhole) (arg3 : Memref sig .scVector .hbm S8388608 .f32) (harg3 : arg3.IsWhole)
  (arg4 : Memref sig .scVector .hbm S32x16 .f32) (harg4 : arg4.IsWhole) (arg5 : Memref sig .scVector .hbm S32x16 .f32) (harg5 : arg5.IsWhole)
  (arg6 : Memref sig .scVector .vmem S8192 .f32) (harg6 : arg6.IsWhole) (arg7 : Memref sig .scVector .vmem S8192 .f32) (harg7 : arg7.IsWhole)
  (arg8 : Memref sig .scVector .vmem S16384 .f32) (harg8 : arg8.IsWhole) (arg9 : Memref sig .scVector .vmem S16384 .f32) (harg9 : arg9.IsWhole)
  (arg10 : Memref sig .scVector .vmem S16 .f32) (harg10 : arg10.IsWhole) (arg11 : Memref sig .scVector .vmem S16 .f32) (harg11 : arg11.IsWhole)
  (s12 s13 s14 s15 r0 r1 : DmaSems sig S_)

/-- The loop's state before pass `n`: the two buffers of the chunk, unchanged, and the accumulators at their value. -/
def loopInv (mb : Buf (Elt F) (arg6.view.loc (thr d L))) (lb : Buf (Elt F) (arg8.view.loc (thr d L))) (a : Acc F) (n : ℕ) (acc : Acc F) : sProp 𝕄 :=
  iprop(⌜acc = trips (arg6.view.read (Elt F) mb) (arg8.view.read (Elt F) lb) a n⌝
    ∗ (arg6.view.loc (thr d L) ↦{fullShare} mb) ∗ (arg8.view.loc (thr d L) ↦{fullShare} lb))

/-- One pass keeps the loop's state. -/
theorem trip_wp (mb : Buf (Elt F) (arg6.view.loc (thr d L))) (lb : Buf (Elt F) (arg8.view.loc (thr d L))) (a : Acc F)
    (k : Fin k0_t1_loop.trips) (acc : Acc F) :
    loopInv d L arg6 arg8 mb lb a k.val acc
      ⊢ wp frame (wpE (defs₀ (F := F)) 𝒱₀ (thr d L) none) Set.univ
          (k0_t1_body L arg2 harg2 arg3 harg3 arg4 harg4 arg5 harg5 arg6 harg6 arg7 harg7 arg8 harg8 arg9 harg9 arg10 harg10 arg11 harg11 s12 s13 s14 s15 r0 r1 k acc)
          (loopInv d L arg6 arg8 mb lb a (k.val + 1)) := by
  obtain ⟨acc1, acc2⟩ := acc
  unfold loopInv k0_t1_body
  iintro ⟨%hacc, Hm, Hl⟩
  sl_exec
  sl_step
  isplitr
  · ipureintro
    rw [trips, dif_pos (show k.val < 64 from k.isLt), ← hacc]
    rfl
  isplitl [Hm] <;> iassumption

/-- The whole loop over a chunk, for a body that is the first loop's: the buffers stay, the accumulators become the
    chunk's. -/
theorem loop_wp {α : Type} (mb : Buf (Elt F) (arg6.view.loc (thr d L))) (lb : Buf (Elt F) (arg8.view.loc (thr d L))) (a : Acc F)
    (body : Fin k0_t1_loop.trips → Acc F → Prog (TpuEff nD τ sig (Elt F) Λ₀ (.scVector (cV L) (jV L))) (Acc F))
    (hb : body = k0_t1_body L arg2 harg2 arg3 harg3 arg4 harg4 arg5 harg5 arg6 harg6 arg7 harg7 arg8 harg8 arg9 harg9 arg10 harg10 arg11 harg11 s12 s13 s14 s15 r0 r1)
    (kk : Acc F → Prog (TpuEff nD τ sig (Elt F) Λ₀ (.scVector (cV L) (jV L))) α) (Q : α → sProp 𝕄) :
    iprop((arg6.view.loc (thr d L) ↦{fullShare} mb) ∗ (arg8.view.loc (thr d L) ↦{fullShare} lb)
        ∗ (∀ r₁ r₂, ⌜(r₁, r₂) = chunk (arg6.view.read (Elt F) mb) (arg8.view.read (Elt F) lb) a⌝
            -∗ (arg6.view.loc (thr d L) ↦{fullShare} mb) -∗ (arg8.view.loc (thr d L) ↦{fullShare} lb)
            -∗ wp frame (wpE (defs₀ (F := F)) 𝒱₀ (thr d L) none) Set.univ (kk (r₁, r₂)) Q))
      ⊢ wp frame (wpE (defs₀ (F := F)) 𝒱₀ (thr d L) none) Set.univ (Scf.Loop.for k0_t1_loop k0_t1_ok a body >>= kk) Q := by
  subst hb
  iintro ⟨Hm, Hl, Hk⟩
  sl_for loopInv d L arg6 arg8 mb lb a $$ [Hm Hl]
  case region =>
    intro k acc
    exact trip_wp d L arg2 harg2 arg3 harg3 arg4 harg4 arg5 harg5 arg6 harg6 arg7 harg7 arg8 harg8 arg9 harg9 arg10 harg10 arg11 harg11 s12 s13 s14 s15 r0 r1 mb lb a k acc
  · unfold loopInv
    isplitr
    · ipureintro; rfl
    isplitl [Hm] <;> iassumption
  iintro %acc HI
  unfold loopInv
  icases HI with ⟨%hacc, Hm, Hl⟩
  obtain ⟨r₁, r₂⟩ := acc
  iapply Hk $$ %r₁ %r₂ [] Hm Hl
  ipureintro
  exact hacc

/-! The loops of the later chunks are the first loop: on the other pair of buffers for an odd chunk, on the same for an
even one. -/
theorem t2_eq (v2 : BitVec 32) (x y : FVec F S16 .f32) (c : BitVec 32) :
    k0_t2_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg7 harg7 arg6 harg6 arg9 harg9 arg8 harg8 arg10 harg10 arg11 harg11 s12 s13 s14 s15 r0 r1 := rfl
theorem t3_eq (v2 : BitVec 32) (x y : FVec F S16 .f32) (c : BitVec 32) :
    k0_t3_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg6 harg6 arg7 harg7 arg8 harg8 arg9 harg9 arg10 harg10 arg11 harg11 s12 s13 s14 s15 r0 r1 := rfl
theorem t4_eq (v2 : BitVec 32) (x y : FVec F S16 .f32) (c : BitVec 32) :
    k0_t4_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg7 harg7 arg6 harg6 arg9 harg9 arg8 harg8 arg10 harg10 arg11 harg11 s12 s13 s14 s15 r0 r1 := rfl
theorem t5_eq (v2 : BitVec 32) (x y : FVec F S16 .f32) :
    k0_t5_body L arg2 harg2 arg3 harg3 arg4 harg4 arg5 harg5 arg6 harg6 arg7 harg7 arg8 harg8 arg9 harg9 arg10 harg10 arg11 harg11 s12 s13 s14 s15 r0 r1 v2 x y
      = k0_t1_body L arg2 harg2 arg3 harg3 arg4 harg4 arg5 harg5 arg6 harg6 arg7 harg7 arg8 harg8 arg9 harg9 arg10 harg10 arg11 harg11 s12 s13 s14 s15 r0 r1 := rfl
theorem t6_eq (v2 : BitVec 32) (x y : FVec F S16 .f32) :
    k0_t6_body L arg2 harg2 arg3 harg3 arg4 harg4 arg5 harg5 arg6 harg6 arg7 harg7 arg8 harg8 arg9 harg9 arg10 harg10 arg11 harg11 s12 s13 s14 s15 r0 r1 v2 x y
      = k0_t1_body L arg2 harg2 arg3 harg3 arg4 harg4 arg5 harg5 arg7 harg7 arg6 harg6 arg9 harg9 arg8 harg8 arg10 harg10 arg11 harg11 s12 s13 s14 s15 r0 r1 := rfl
theorem t7_eq (v2 : BitVec 32) (x y : FVec F S16 .f32) :
    k0_t7_body L arg2 harg2 arg3 harg3 arg4 harg4 arg5 harg5 arg6 harg6 arg7 harg7 arg8 harg8 arg9 harg9 arg10 harg10 arg11 harg11 s12 s13 s14 s15 r0 r1 v2 x y
      = k0_t1_body L arg2 harg2 arg3 harg3 arg4 harg4 arg5 harg5 arg6 harg6 arg7 harg7 arg8 harg8 arg9 harg9 arg10 harg10 arg11 harg11 s12 s13 s14 s15 r0 r1 := rfl
theorem t8_eq (v2 : BitVec 32) (x y : FVec F S16 .f32) (c : BitVec 32) :
    k0_t8_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg7 harg7 arg6 harg6 arg9 harg9 arg8 harg8 arg10 harg10 arg11 harg11 s12 s13 s14 s15 r0 r1 := rfl
theorem t9_eq (v2 : BitVec 32) (x y : FVec F S16 .f32) (c : BitVec 32) :
    k0_t9_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg6 harg6 arg7 harg7 arg8 harg8 arg9 harg9 arg10 harg10 arg11 harg11 s12 s13 s14 s15 r0 r1 := rfl
theorem t10_eq (v2 : BitVec 32) (x y : FVec F S16 .f32) (c : BitVec 32) :
    k0_t10_body L arg2 harg2 arg3 harg3 arg4 harg4 arg5 harg5 arg6 harg6 arg7 harg7 arg8 harg8 arg9 harg9 arg10 harg10 arg11 harg11 s12 s13 s14 s15 r0 r1 v2 x y c
      = k0_t1_body L arg2 harg2 arg3 harg3 arg4 harg4 arg5 harg5 arg7 harg7 arg6 harg6 arg9 harg9 arg8 harg8 arg10 harg10 arg11 harg11 s12 s13 s14 s15 r0 r1 := rfl

end

end Cert.Proof

end
-- ==== Proof.Tile.lean ====
/- The SparseCore task, run once at a symbolic (SparseCore, subcore) pair. -/
module

public import proofs.«01_k».proof.Proof.Trip
public import Idealize.ShloMosaic.Lib.VecWindow
public import Idealize.ShloMosaic.Lib.ViewIndex

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The table of the kernels the SparseCore launch is laid over: the pipeline's. -/
abbrev ΛP := Pipeline.Sig Λ₀ (Fin 1) fun p => (pcfgs (F := F) p).Adm
abbrev K : SparseCore.Cfg τ sig (ΛP (F := F)) 1 := sc
abbrev D := Pipeline.defs pcfgs (defs₀ (F := F))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "xV" => (Memref.whole Cert.KernelIdeal.main_v0_scv : Memref Cert.KernelIdeal.sig Kind.scVector Space.hbm Cert.KernelIdeal.S4194304 EltTy.f32)
local notation "yV" => (Memref.whole Cert.KernelIdeal.main_v3_scv : Memref Cert.KernelIdeal.sig Kind.scVector Space.hbm Cert.KernelIdeal.S8388608 EltTy.f32)
local notation "uV" => (Memref.whole Cert.KernelIdeal.main_v4_0_scv : Memref Cert.KernelIdeal.sig Kind.scVector Space.hbm Cert.KernelIdeal.S32x16 EltTy.f32)
local notation "wV" => (Memref.whole Cert.KernelIdeal.main_v4_1_scv : Memref Cert.KernelIdeal.sig Kind.scVector Space.hbm Cert.KernelIdeal.S32x16 EltTy.f32)

variable (d : Dev nD) (L : grid0.Coords)

/-- The task's row of the first output (partial losses), as its copy names it, -/
abbrev uRow (L : grid0.Coords) : Memref sig .scVector .hbm S16 .f32 :=
  ((uV).slice (Rect.unit (s := S32x16) (k0_off33 L) S1x16.size (k0_off33_inb L)) (fun _ => rfl)).squeeze S16 squeezes_S1x16_S16
/-- and of the second (partial counts). -/
abbrev wRow (L : grid0.Coords) : Memref sig .scVector .hbm S16 .f32 :=
  ((wV).slice (Rect.unit (s := S32x16) (k0_off33 L) S1x16.size (k0_off33_inb L)) (fun _ => rfl)).squeeze S16 squeezes_S1x16_S16

/-- The task's DMA semaphores, as cells' names, -/
abbrev taskSems : Finset (SemLoc sig) :=
  {.dma cc0_scratch6.sem, .dma cc0_scratch7.sem, .dma cc0_scratch8.sem, .dma cc0_scratch9.sem, .dma cc0_scoped0.sem, .dma cc0_scoped1.sem}
/-- and its buffers in tile memory. -/
abbrev taskRefs : Finset (Ref sig .scVector) :=
  {cc0_scratch0, cc0_scratch1, cc0_scratch2, cc0_scratch3, cc0_scratch4, cc0_scratch5}

abbrev semAt (s : DmaSems sig S_) : sProp 𝕄 := semVal (thr d L, .dma s.sem) 0
abbrev bufAt (b : Ref sig .scVector) : sProp 𝕄 := iprop(∃ f, (thr d L).loc b ↦{fullShare} f)

/-- What else the subcore has of cells, -/
def otherSems : sProp 𝕄 := bigSep (ownCells (thr d L) \ taskSems.image fun s => (thr d L, s)) fun g => semVal g 0
/-- and of buffers. -/
def otherBufs : sProp 𝕄 :=
  bigSep (ownRefs (τ := τ) (.scVector (cV L) (jV L)) \ taskRefs.image (Proc.scVector (cV L) (jV L)).devRef)
    fun b => iprop(∃ f, ((d, b) : Loc nD τ sig) ↦{fullShare} f)

theorem ownSems0_task :
    (ownSems0 (thr d L) : sProp 𝕄)
      = iprop((semAt d L cc0_scratch6 ∗ semAt d L cc0_scratch7 ∗ semAt d L cc0_scratch8 ∗ semAt d L cc0_scratch9
          ∗ semAt d L cc0_scoped0 ∗ semAt d L cc0_scoped1) ∗ otherSems (F := F) d L) := by
  unfold SparseCore.Cfg.ownSems0 otherSems
  rw [SparseCore.bigSep_sdiff_split' (t := taskSems.image fun s => (thr d L, s))]
  · rw [SparseCore.bigSep_image_of_injOn (fun _ _ _ _ h => (Prod.mk.inj h).2)]
    rw [SparseCore.bigSep_insert' (by decide), SparseCore.bigSep_insert' (by decide), SparseCore.bigSep_insert' (by decide),
      SparseCore.bigSep_insert' (by decide), SparseCore.bigSep_insert' (by decide), bigSep_singleton]
  · intro g hg
    obtain ⟨s, hs, rfl⟩ := Finset.mem_image.mp hg
    exact mem_ownCells.mpr ⟨rfl, (show ∀ s ∈ taskSems, s.isScoped .scVector = true by decide) s hs⟩

theorem taskRefs_all {M : Type} [URA M] (Φ : Ref sig .scVector → sProp M) :
    bigSep taskRefs Φ = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide),
    SparseCore.bigSep_insert' (by decide), SparseCore.bigSep_insert' (by decide), bigSep_singleton]

theorem ownBufs_task :
    (ownBufs (thr d L) : sProp 𝕄)
      = iprop((bufAt d L cc0_scratch0 ∗ bufAt d L cc0_scratch1 ∗ bufAt d L cc0_scratch2 ∗ bufAt d L cc0_scratch3
          ∗ bufAt d L cc0_scratch4 ∗ bufAt d L cc0_scratch5) ∗ otherBufs (F := F) d L) := by
  unfold SparseCore.Cfg.ownBufs otherBufs
  rw [SparseCore.bigSep_sdiff_split' (t := taskRefs.image (Proc.scVector (cV L) (jV L)).devRef)]
  · rw [SparseCore.bigSep_image_of_injOn (fun _ _ _ _ h => Proc.devRef_injective _ h)]
    exact congrArg (fun A => iprop(A ∗ _)) (taskRefs_all fun r => ((bufAt d L r) : sProp 𝕄))
  · intro b hb
    obtain ⟨r, hr, rfl⟩ := Finset.mem_image.mp hb
    refine SparseCore.Cfg.mem_ownRefs_of_owner ?_
    have : ∀ r ∈ taskRefs, ((Proc.scVector (cV L) (jV L)).devRef r).owner = .proc (.scVector (cV L) (jV L)) := by
      intro r hr
      simp only [taskRefs, Finset.mem_insert, Finset.mem_singleton] at hr
      rcases hr with rfl | rfl | rfl | rfl | rfl | rfl <;> rfl
    exact this r hr

/-- One chunk's step, from what its two copies landed. -/
theorem ch_of {κ : Kind} {sp sp' : Space} (v : View sig κ sp S8192 .f32) (v' : View sig κ sp' S16384 .f32)
    (f : v.ty.Contents (Elt F)) (f' : v'.ty.Contents (Elt F)) {p : S8192.Idx → F .f32} {p' : S16384.Idx → F .f32} {a : Acc F}
    {x : S4194304.Idx → F .f32} {y : S8388608.Idx → F .f32} (r : Fin 10) (hp : p = mCh L x r) (hp' : p' = lCh L y r) :
    chunk (v.read (Elt F) (v.write (Elt F) f p Finset.univ)) (v'.read (Elt F) (v'.write (Elt F) f' p' Finset.univ)) a = ch L x y a r := by
  subst hp; subst hp'
  rw [View.read_write_univ, View.read_write_univ]; rfl

/-- A view's elements after a copy of `p` are those of any contents that reads `p` there. -/
theorem row_eq {κ : Kind} {sp : Space} (v : View sig κ sp S16 .f32) (f g : v.ty.Contents (Elt F)) {p : S16.Idx → F .f32}
    (hg : v.read (Elt F) g = p) : ∀ i ∈ v.set, v.writes (Elt F) f [⟨Rect.whole S16, p⟩] i = g i := by
  intro i hi
  obtain ⟨j, -, rfl⟩ := Finset.mem_map.mp hi
  refine View.eq_of_read_eq ?_
  rw [hg]
  have := View.read_writes_cons_emb v f (Rect.whole S16) p [] j
  rwa [Rect.emb_whole_apply] at this

/-- Recording one more wait at the kernel's own index. -/
theorem waits_insert {W W' : Waits sig (HIx 1)} {s : SemLoc sig} (h : ∀ p ∈ W', p ∈ W ∨ p.2 = none) :
    ∀ p ∈ (insert (s, (default : HIx 1)) W' : Waits sig (HIx 1)), p ∈ W ∨ p.2 = none := by
  intro p hp
  rcases Finset.mem_insert.mp hp with rfl | hp
  · exact .inr rfl
  · exact h p hp

set_option maxHeartbeats 2000000 in
/-- The task: from read shares of the two tables and its own row of each output, both rows end at the task's
    accumulators. -/
theorem tile_body (q : PosShare TreeShare) (x : Buf (Elt F) ((thr d L).loc main_v0_scv)) (y : Buf (Elt F) ((thr d L).loc main_v3_scv))
    (u : Buf (Elt F) ((thr d L).loc main_v4_0_scv)) (w : Buf (Elt F) ((thr d L).loc main_v4_1_scv))
    (u' : Buf (Elt F) ((thr d L).loc main_v4_0_scv)) (w' : Buf (Elt F) ((thr d L).loc main_v4_1_scv))
    (hu' : (uRow L).view.read (Elt F) u' = (task L x y).1) (hw' : (wRow L).view.read (Elt F) w' = (task L x y).2)
    (O : CellTallies nD τ sig (HIx 1)) (W : Waits sig (HIx 1)) (hO : ∀ g, O g none = 0) :
    iprop(levAts (K (F := F)).L (K (F := F)).lev ∗ (emp : sProp 𝕄)
        ∗ (((xV).view.loc (thr d L) ↦{q} x) ∗ ((yV).view.loc (thr d L) ↦{q} y)
          ∗ ((uRow L).view.loc (thr d L) ↦[(uRow L).view.set]{fullShare} u) ∗ ((wRow L).view.loc (thr d L) ↦[(wRow L).view.set]{fullShare} w))
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) yV (Memref.isWhole_whole _) uV (Memref.isWhole_whole _) wV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scoped0 cc0_scoped1)
          fun _ => iprop((((xV).view.loc (thr d L) ↦{q} x) ∗ ((yV).view.loc (thr d L) ↦{q} y)
            ∗ ((uRow L).view.loc (thr d L) ↦[(uRow L).view.set]{fullShare} u')
            ∗ ((wRow L).view.loc (thr d L) ↦[(wRow L).view.set]{fullShare} w'))
            ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  simp only [k0_part61_eq_skeleton, k0_part62_eq_skeleton, k0_part63_eq_skeleton, k0_part64_eq_skeleton]
  rw [(K (F := F)).scopedBufs_V facts d (cV L) (jV L), SparseCore.Cfg.scopedSems0_V (Val := Elt F) d (cV L) (jV L), ownSems0_task, ownBufs_task]
  iintro ⟨#Hlv, -, ⟨Hx, Hy, Hu, Hw⟩, ⟨⟨⟨%f0, H0⟩, ⟨%f1, H1⟩, ⟨%f2, H2⟩, ⟨%f3, H3⟩, ⟨%f4, H4⟩, ⟨%f5, H5⟩⟩, Hbufs⟩,
    ⟨⟨S6, S7, S8, S9, R0, R1⟩, Hsems⟩, HO⟩
  ihave Hmw := (show levAts (K (F := F)).L (K (F := F)).lev ⊢ Transfers.MayWaits (thr d L) (default : HIx 1) O from
    (K (F := F)).mayWaits_none (thr := thr d L) hO) $$ Hlv
  ihave H0 := (show ((thr d L).loc cc0_scratch0 ↦{fullShare} f0 : sProp 𝕄) ⊢ (Memref.whole cc0_scratch0).view.loc (thr d L) ↦{fullShare} f0 from .rfl) $$ H0
  ihave H1 := (show ((thr d L).loc cc0_scratch1 ↦{fullShare} f1 : sProp 𝕄) ⊢ (Memref.whole cc0_scratch1).view.loc (thr d L) ↦{fullShare} f1 from .rfl) $$ H1
  ihave H2 := (show ((thr d L).loc cc0_scratch2 ↦{fullShare} f2 : sProp 𝕄) ⊢ (Memref.whole cc0_scratch2).view.loc (thr d L) ↦{fullShare} f2 from .rfl) $$ H2
  ihave H3 := (show ((thr d L).loc cc0_scratch3 ↦{fullShare} f3 : sProp 𝕄) ⊢ (Memref.whole cc0_scratch3).view.loc (thr d L) ↦{fullShare} f3 from .rfl) $$ H3
  ihave H4 := (show ((thr d L).loc cc0_scratch4 ↦{fullShare} f4 : sProp 𝕄) ⊢ (Memref.whole cc0_scratch4).view.loc (thr d L) ↦{fullShare} f4 from .rfl) $$ H4
  ihave H5 := (show ((thr d L).loc cc0_scratch5 ↦{fullShare} f5 : sProp 𝕄) ⊢ (Memref.whole cc0_scratch5).view.loc (thr d L) ↦{fullShare} f5 from .rfl) $$ H5
  ihave Hx := (show ((thr d L).loc main_v0_scv ↦{q} x : sProp 𝕄) ⊢ (Memref.whole main_v0_scv).view.loc (thr d L) ↦{q} x from .rfl) $$ Hx
  ihave Hy := (show ((thr d L).loc main_v3_scv ↦{q} y : sProp 𝕄) ⊢ (Memref.whole main_v3_scv).view.loc (thr d L) ↦{q} y from .rfl) $$ Hy
  ihave Hu := (show ((uRow L).view.loc (thr d L) ↦[(uRow L).view.set]{fullShare} u : sProp 𝕄)
    ⊢ (uRow L).view.loc (thr d L) ↦[(uRow L).view.set]{fullShare} u from .rfl) $$ Hu
  ihave Hw := (show ((wRow L).view.loc (thr d L) ↦[(wRow L).view.set]{fullShare} w : sProp 𝕄)
    ⊢ (wRow L).view.loc (thr d L) ↦[(wRow L).view.set]{fullShare} w from .rfl) $$ Hw
  sl_exec
  iapply (loop_wp (hb := rfl))
  isplitl [H0]; · iexact H0
  isplitl [H2]; · iexact H2
  iintro %r1 %c1 %h1 H0 H2
  sl_exec
  iapply (loop_wp (hb := t2_eq ..))
  isplitl [H1]; · iexact H1
  isplitl [H3]; · iexact H3
  iintro %r2 %c2 %h2 H1 H3
  sl_exec
  iapply (loop_wp (hb := t3_eq ..))
  isplitl [H0]; · iexact H0
  isplitl [H2]; · iexact H2
  iintro %r3 %c3 %h3 H0 H2
  sl_exec
  iapply (loop_wp (hb := t4_eq ..))
  isplitl [H1]; · iexact H1
  isplitl [H3]; · iexact H3
  iintro %r4 %c4 %h4 H1 H3
  sl_exec
  iapply (loop_wp (hb := t5_eq ..))
  isplitl [H0]; · iexact H0
  isplitl [H2]; · iexact H2
  iintro %r5 %c5 %h5 H0 H2
  sl_exec
  iapply (loop_wp (hb := t6_eq ..))
  isplitl [H1]; · iexact H1
  isplitl [H3]; · iexact H3
  iintro %r6 %c6 %h6 H1 H3
  sl_exec
  iapply (loop_wp (hb := t7_eq ..))
  isplitl [H0]; · iexact H0
  isplitl [H2]; · iexact H2
  iintro %r7 %c7 %h7 H0 H2
  sl_exec
  iapply (loop_wp (hb := t8_eq ..))
  isplitl [H1]; · iexact H1
  isplitl [H3]; · iexact H3
  iintro %r8 %c8 %h8 H1 H3
  sl_exec
  iapply (loop_wp (hb := t9_eq ..))
  isplitl [H0]; · iexact H0
  isplitl [H2]; · iexact H2
  iintro %r9 %c9 %h9 H0 H2
  sl_exec
  iapply (loop_wp (hb := t10_eq ..))
  isplitl [H1]; · iexact H1
  isplitl [H3]; · iexact H3
  iintro %r10 %c10 %h10 H1 H3
  sl_exec
  sl_step
  have e1 := h1.trans (ch_of L _ _ _ _ (x := x) (y := y) 0 rfl rfl)
  have e2 := h2.trans (ch_of L _ _ _ _ (x := x) (y := y) 1 rfl rfl)
  have e3 := h3.trans (ch_of L _ _ _ _ (x := x) (y := y) 2 rfl rfl)
  have e4 := h4.trans (ch_of L _ _ _ _ (x := x) (y := y) 3 rfl rfl)
  have e5 := h5.trans (ch_of L _ _ _ _ (x := x) (y := y) 4 rfl rfl)
  have e6 := h6.trans (ch_of L _ _ _ _ (x := x) (y := y) 5 rfl rfl)
  have e7 := h7.trans (ch_of L _ _ _ _ (x := x) (y := y) 6 rfl rfl)
  have e8 := h8.trans (ch_of L _ _ _ _ (x := x) (y := y) 7 rfl rfl)
  have e9 := h9.trans (ch_of L _ _ _ _ (x := x) (y := y) 8 rfl rfl)
  have e10 := h10.trans (ch_of L _ _ _ _ (x := x) (y := y) 9 rfl rfl)
  rw [e1] at e2
  rw [e2] at e3
  rw [e3] at e4
  rw [e4] at e5
  rw [e5] at e6
  rw [e6] at e7
  rw [e7] at e8
  rw [e8] at e9
  rw [e9] at e10
  have e10 : (r10, c10) = task L x y := e10
  have hr := row_eq (uRow L).view u u' (p := tile_body.sl.dma4 d L f4 r10) (by
    rw [hu', ← e10]
    exact (View.read_writes_full (Memref.whole cc0_scratch4).view f4 inb_S16_S16_0 r10 []).symm)
  have hc := row_eq (wRow L).view w w' (p := tile_body.sl.dma4_1 d L f5 c10) (by
    rw [hw', ← e10]
    exact (View.read_writes_full (Memref.whole cc0_scratch5).view f5 inb_S16_S16_0 c10 []).symm)
  isplitl [Hx Hy Hu Hw]
  · isplitl [Hx]; · iexact Hx
    isplitl [Hy]; · iexact Hy
    isplitl [Hu]
    · iapply (Entails.of_eq (pointsTo_congr hr)) $$ Hu
    · iapply (Entails.of_eq (pointsTo_congr hc)) $$ Hw
  isplitl [H0 H1 H2 H3 H4 H5 Hbufs]
  · isplitr [Hbufs]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    · iexact Hbufs
  isplitl [S6 S7 S8 S9 R0 R1 Hsems]
  · isplitr [Hsems]
    · isplitl [S6]; · iexact S6
      isplitl [S7]; · iexact S7
      isplitl [S8]; · iexact S8
      isplitl [S9]; · iexact S9
      isplitl [R0]; · iexact R0
      iexact R1
    · iexact Hsems
  iexists _; isplitr
  swap; · iexact HO
  ipureintro
  repeat refine waits_insert ?_
  exact fun p hp => .inl hp

end Cert.Proof

end
-- ==== Proof.Sc.lean ====
/- What the SparseCore call's handshakes carry, and its tasks' obligation. -/
module

public import proofs.«01_k».proof.Proof.Tile
public import Idealize.ShloMosaic.Lib.SparseCore.Quiescent

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev 𝒱 : Variants := 𝒱₀.lift
abbrev v₀ : 𝒱.V := Sum.inl none

abbrev EH : Emb UH 𝕄 := embL

/-! ## A share in pieces: the left half of what is left, again and again -/

def piece : ℕ → PosShare TreeShare → PosShare TreeShare
  | 0, q => q.left
  | n + 1, q => piece n q.right
def remnant : ℕ → PosShare TreeShare → PosShare TreeShare
  | 0, q => q
  | n + 1, q => remnant n q.right

theorem sep_assoc_eq (A B C : sProp 𝕄) : iprop(A ∗ B ∗ C) = iprop((A ∗ B) ∗ C) := by
  have l : iprop(A ∗ B ∗ C) ⊢ iprop((A ∗ B) ∗ C) := by
    iintro ⟨HA, HB, HC⟩
    isplitl [HA HB]; · isplitl [HA] <;> iassumption
    iexact HC
  have r : iprop((A ∗ B) ∗ C) ⊢ iprop(A ∗ B ∗ C) := by
    iintro ⟨⟨HA, HB⟩, HC⟩
    isplitl [HA]; · iexact HA
    isplitl [HB] <;> iassumption
  exact BI.Entails.antisymm l r

theorem emp_sep_eq (A : sProp 𝕄) : A = iprop(emp ∗ A) := by
  have l : A ⊢ iprop(emp ∗ A) := by
    iintro H
    isplitr; · iempintro
    iexact H
  have r : iprop(emp ∗ A) ⊢ A := by
    iintro ⟨-, H⟩; iexact H
  exact BI.Entails.antisymm l r

/-- A points-to is `n` readers' and what remains. -/
theorem pointsTo_pieces {ℓ : Loc nD τ sig} (f : Buf (Elt F) ℓ) : ∀ (n : ℕ) (q : PosShare TreeShare),
    (ℓ ↦{q} f : sProp 𝕄) = iprop((bigSep Finset.univ fun i : Fin n => ℓ ↦{piece i.val q} f) ∗ ℓ ↦{remnant n q} f)
  | 0, q => by
    rw [show (Finset.univ : Finset (Fin 0)) = ∅ from rfl, bigSep_empty]
    exact emp_sep_eq _
  | n + 1, q => by
    rw [BI.Entails.antisymm (pointsTo_share (PosShare.mem_left_op_right q)).1 (pointsTo_share (PosShare.mem_left_op_right q)).2,
      pointsTo_pieces f n q.right, Fin.univ_succ, Finset.cons_eq_insert,
      SparseCore.bigSep_insert' (by simp [Fin.succ_ne_zero]), bigSep_map]
    exact sep_assoc_eq _ _ _

/-! ## The tasks, numbered as their rows are -/

/-- Task `(c, i)`'s number: its row of the outputs. -/
def wid (c : Fin 2) (i : Fin 16) : Fin 32 := finProdFinEquiv (i, c)
theorem wid_val (c : Fin 2) (i : Fin 16) : (wid c i).val = 2 * i.val + c.val := by
  show c.val + 2 * i.val = _; omega

def coords (c : Fin (grid0.bound 0)) (s : Fin (grid0.bound 1)) : grid0.Coords :=
  fun | 0 => c | 1 => s | ⟨_ + 2, h⟩ => absurd h (Nat.not_lt.2 (Nat.le_add_left _ _))

/-- The task that has a row. -/
def owner (w : Fin 32) : grid0.Coords := coords ((finProdFinEquiv.symm w : Fin 16 × Fin 2).2) ((finProdFinEquiv.symm w : Fin 16 × Fin 2).1)
theorem owner_wid (c : Fin 2) (i : Fin 16) : owner (wid c i) = coords c i := by
  unfold owner wid; rw [Equiv.symm_apply_apply]

theorem bigSep_tasks (Φ : Fin 32 → sProp 𝕄) :
    bigSep Finset.univ Φ = bigSep Finset.univ fun c : Fin 2 => bigSep Finset.univ fun i : Fin 16 => Φ (wid c i) := by
  rw [bigSep_univ_equiv ((Equiv.prodComm (Fin 2) (Fin 16)).trans finProdFinEquiv) Φ, bigSep_univ_prod]
  rfl

/-! ## The rows of the two outputs -/

theorem rdiv : 32 ∣ S32x16.size 0 := ⟨1, rfl⟩
abbrev row (w : Fin 32) : Finset S32x16.Idx := (Rect.part (s := S32x16) (a₀ := 0) rdiv w).set
theorem rows_disjoint : ∀ i ∈ (Finset.univ : Finset (Fin 32)), ∀ j ∈ (Finset.univ : Finset (Fin 32)), i ≠ j → Disjoint (row i) (row j) :=
  fun _ _ _ _ h => Rect.part_disjoint rdiv h
theorem rows_cover : (Finset.univ : Finset (Fin 32)).biUnion row = Finset.univ := Rect.biUnion_part rdiv

abbrev v0Loc (d : Dev nD) : Loc nD τ sig := (SparseCore.T d).loc main_v0
abbrev v3Loc (d : Dev nD) : Loc nD τ sig := (SparseCore.T d).loc main_v3
abbrev uLoc (d : Dev nD) : Loc nD τ sig := (SparseCore.T d).loc main_v4_0
abbrev wLoc (d : Dev nD) : Loc nD τ sig := (SparseCore.T d).loc main_v4_1

theorem uPts_rows (d : Dev nD) (f : Buf (Elt F) (uLoc d)) :
    (uLoc d ↦{fullShare} f : sProp 𝕄) = bigSep Finset.univ fun i : Fin 32 => uLoc d ↦[row i]{fullShare} f := by
  rw [← pointsTo_biUnion Finset.univ (ℓ := uLoc d) row rows_disjoint, rows_cover]
theorem wPts_rows (d : Dev nD) (f : Buf (Elt F) (wLoc d)) :
    (wLoc d ↦{fullShare} f : sProp 𝕄) = bigSep Finset.univ fun i : Fin 32 => wLoc d ↦[row i]{fullShare} f := by
  rw [← pointsTo_biUnion Finset.univ (ℓ := wLoc d) row rows_disjoint, rows_cover]

theorem unitRow_eq (c : Fin 2) (i : Fin 16) :
    Rect.unit (s := S32x16) (k0_off33 (coords c i)) S1x16.size (k0_off33_inb (coords c i)) = Rect.part (s := S32x16) (a₀ := 0) rdiv (wid c i) := by
  have hw := wid_val c i
  unfold Rect.part Rect.block
  congr 1 <;> funext a
  · rw [k0_off33_eq]
    match a with
    | 0 => simp [Shape.partIx, Shape.partSize, hw, coords]
    | 1 => simp [Shape.partIx, Shape.partSize]
  · match a with
    | 0 => simp [Shape.partSize]
    | 1 => simp [Shape.partSize]

theorem set_unitRow (c : Fin 2) (i : Fin 16) :
    (Rect.unit (s := S32x16) (k0_off33 (coords c i)) S1x16.size (k0_off33_inb (coords c i))).set = row (wid c i) :=
  unitRow_eq c i ▸ rfl

theorem set_uRow (c : Fin 2) (i : Fin 16) : (uRow (coords c i)).view.set = row (wid c i) := by
  show (((View.whole main_v4_0_scv).slice (Rect.unit (s := S32x16) (k0_off33 (coords c i)) S1x16.size (k0_off33_inb (coords c i)))).reshape S16 squeezes_S1x16_S16.numel_eq).set = _
  rw [View.set_reshape]
  exact (View.set_slice_whole _ _).trans (set_unitRow c i)
theorem set_wRow (c : Fin 2) (i : Fin 16) : (wRow (coords c i)).view.set = row (wid c i) := by
  show (((View.whole main_v4_1_scv).slice (Rect.unit (s := S32x16) (k0_off33 (coords c i)) S1x16.size (k0_off33_inb (coords c i)))).reshape S16 squeezes_S1x16_S16.numel_eq).set = _
  rw [View.set_reshape]
  exact (View.set_slice_whole _ _).trans (set_unitRow c i)

/-! ## What the call leaves in them -/

/-- An array of 32 rows, row `w` what `f` says of the task that has it. -/
def rowsOf (f : grid0.Coords → Vec F S16 .f32) : S32x16.Idx → F .f32 := fun j => f (owner (j 0)) fun | 0 => j 1

theorem lane_of : ∀ y : S16.Idx, (Shape.reshapeEquiv squeezes_S1x16_S16.numel_eq y : S1x16.Idx) = fun | 0 => (0 : Fin 1) | 1 => y 0 := by
  decide +kernel

theorem rowsOf_emb (f : grid0.Coords → Vec F S16 .f32) (c : Fin 2) (i : Fin 16) (y : S16.Idx) :
    rowsOf f ((Rect.unit (s := S32x16) (k0_off33 (coords c i)) S1x16.size (k0_off33_inb (coords c i))).emb
      (Shape.reshapeEquiv squeezes_S1x16_S16.numel_eq y)) = f (coords c i) y := by
  have h0 : ((Rect.unit (s := S32x16) (k0_off33 (coords c i)) S1x16.size (k0_off33_inb (coords c i))).emb
      (Shape.reshapeEquiv squeezes_S1x16_S16.numel_eq y)) 0 = wid c i := Fin.ext (by
    rw [wid_val, lane_of]
    show k0_off33 (coords c i) 0 + 1 * 0 = _
    rw [k0_off33_eq]; rfl)
  have h1 : ((Rect.unit (s := S32x16) (k0_off33 (coords c i)) S1x16.size (k0_off33_inb (coords c i))).emb
      (Shape.reshapeEquiv squeezes_S1x16_S16.numel_eq y)) 1 = y 0 := Fin.ext (by
    rw [lane_of]
    show k0_off33 (coords c i) 1 + 1 * (y 0).val = _
    rw [k0_off33_eq]; show 0 + 1 * (y 0).val = _; omega)
  unfold rowsOf
  rw [h0, h1, owner_wid]
  exact congrArg _ (funext fun a => match a with | 0 => rfl)

theorem read_uRow (f : grid0.Coords → Vec F S16 .f32) (c : Fin 2) (i : Fin 16) :
    (uRow (coords c i)).view.read (Elt F) (rowsOf f) = f (coords c i) := funext fun y => rowsOf_emb f c i y
theorem read_wRow (f : grid0.Coords → Vec F S16 .f32) (c : Fin 2) (i : Fin 16) :
    (wRow (coords c i)).view.read (Elt F) (rowsOf f) = f (coords c i) := funext fun y => rowsOf_emb f c i y

/-! ## The handshakes' payloads -/

variable (X : (d : Dev nD) → Buf (Elt F) (v0Loc d)) (Y : (d : Dev nD) → Buf (Elt F) (v3Loc d))
variable (U₀ : (d : Dev nD) → Buf (Elt F) (uLoc d)) (W₀ : (d : Dev nD) → Buf (Elt F) (wLoc d))

/-- The partial losses the call leaves, -/
def uOut (d : Dev nD) : Buf (Elt F) (uLoc d) := rowsOf fun L => (task L (X d) (Y d)).1
/-- and the partial counts. -/
def wOut (d : Dev nD) : Buf (Elt F) (wLoc d) := rowsOf fun L => (task L (X d) (Y d)).2

/-- One task's holding: a reader's piece of the weights and of the logits, its rows of the outputs. -/
abbrev held1 (f : (d : Dev nD) → Buf (Elt F) (uLoc d)) (g : (d : Dev nD) → Buf (Elt F) (wLoc d)) (d : Dev nD) (w : Fin 32) : sProp 𝕄 :=
  iprop((v0Loc d ↦{piece w.val fullShare} X d) ∗ (v3Loc d ↦{piece w.val fullShare} Y d) ∗ (uLoc d ↦[row w]{fullShare} f d) ∗ (wLoc d ↦[row w]{fullShare} g d))

/-- A SparseCore takes its sixteen tasks' holdings and brings them back, the rows written. -/
def P : (K (F := F)).Pay (nD := nD) (Val := Elt F) (Name := ℕ) (U := UU) where
  st := fun q d c => match q with | 0 => bigSep Finset.univ fun i : Fin 16 => held1 X Y U₀ W₀ d (wid c i)
  dn := fun q d c => match q with | 0 => bigSep Finset.univ fun i : Fin 16 => held1 X Y (uOut X Y) (wOut X Y) d (wid c i)
  go := fun q d c i => match q with | 0 => held1 X Y U₀ W₀ d (wid c i)
  td := fun q d c i => match q with | 0 => held1 X Y (uOut X Y) (wOut X Y) d (wid c i)
  x := fun _ _ => iprop(emp)

instance held1_storable (f : (d : Dev nD) → Buf (Elt F) (uLoc d)) (g : (d : Dev nD) → Buf (Elt F) (wLoc d)) (d : Dev nD) (w : Fin 32) :
    BI.Storable (upEmb : UEmb _ 𝕄) (held1 X Y f g d w) := inferInstance

instance P_storable : (P (F := F) X Y U₀ W₀).IsStorable where
  st q d c := match q with
    | 0 => (inferInstance : BI.Storable (upEmb : UEmb _ 𝕄) (bigSep Finset.univ fun i : Fin 16 => held1 X Y U₀ W₀ d (wid c i)))
  dn q d c := match q with
    | 0 => (inferInstance : BI.Storable (upEmb : UEmb _ 𝕄) (bigSep Finset.univ fun i : Fin 16 => held1 X Y (uOut X Y) (wOut X Y) d (wid c i)))
  go q d c i := match q with | 0 => held1_storable X Y _ _ d _
  td q d c i := match q with | 0 => held1_storable X Y _ _ d _

theorem vecSplit : (K (F := F)).VecSplit' (P X Y U₀ W₀) 0 := by
  intro d c
  show (bigSep Finset.univ fun i : Fin 16 => held1 X Y U₀ W₀ d (wid c i)) ⊢ |={Set.univ}=> iprop(
      (bigSep Finset.univ fun i : Fin 16 => held1 X Y U₀ W₀ d (wid c i))
      ∗ ((bigSep Finset.univ fun i : Fin 16 => held1 X Y (uOut X Y) (wOut X Y) d (wid c i))
          -∗ (bigSep Finset.univ fun i : Fin 16 => held1 X Y (uOut X Y) (wOut X Y) d (wid c i))))
  iintro H; imodintro
  isplitl [H]; · iexact H
  iintro H; iexact H

/-! ## The obligation -/

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'; isplitr
  · ipureintro; exact fun p hp => (h p hp).imp_right Or.inl
  · iexact HO

theorem defs₀_vector (c : Fin τ.nSC) (s : Fin τ.nSub) :
    defs₀ (F := F) (.scVector c s) 0 ()
      = SparseCore.onTile hcore0 hsub0 (fun c s => cc0__sc_body (coords c s) (Memref.whole main_v0_scv) (Memref.isWhole_whole _) (Memref.whole main_v3_scv) (Memref.isWhole_whole _) (Memref.whole main_v4_0_scv) (Memref.isWhole_whole _) (Memref.whole main_v4_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1) ⟨⟩ c s := rfl

set_option maxRecDepth 16384 in
theorem tileObl : (K (F := F)).TileObl (D (F := F)) 𝒱 (P X Y U₀ W₀) v₀ 0 := by
  intro d c i O W hO _ _
  simp only [show (P X Y U₀ W₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coords c i) (piece (wid c i).val fullShare) (X d) (Y d) (U₀ d) (W₀ d) (uOut X Y d) (wOut X Y d)
    (read_uRow _ c i) (read_wRow _ c i) O W hO
  rw [set_uRow, set_wRow] at h
  exact h.trans (wp_mono frame _ _ fun _ => obl_post)

/-! ## All the tasks' holdings at once -/

/-- The call takes a reader's piece of the inputs per task and the outputs whole, -/
theorem st0_eq (d : Dev nD) : (bigSep Finset.univ fun c : Fin ((K (F := F)).nCore 0) => (P X Y U₀ W₀).st 0 d c)
    = bigSep Finset.univ fun w : Fin 32 => held1 X Y U₀ W₀ d w := (bigSep_tasks _).symm
/-- and brings them back. -/
theorem dn0_eq (d : Dev nD) : (bigSep Finset.univ fun c : Fin ((K (F := F)).nCore 0) => (P X Y U₀ W₀).dn 0 d c)
    = bigSep Finset.univ fun w : Fin 32 => held1 X Y (uOut X Y) (wOut X Y) d w := (bigSep_tasks _).symm

theorem sep_regroup (A a B b C E : sProp 𝕄) :
    iprop((A ∗ a) ∗ (B ∗ b) ∗ C ∗ E) = iprop((A ∗ B ∗ C ∗ E) ∗ a ∗ b) := by
  have l : iprop((A ∗ a) ∗ (B ∗ b) ∗ C ∗ E) ⊢ iprop((A ∗ B ∗ C ∗ E) ∗ a ∗ b) := by
    iintro ⟨⟨H1, R1⟩, ⟨H2, R2⟩, H3, H4⟩
    isplitl [H1 H2 H3 H4]
    · isplitl [H1]; · iexact H1
      isplitl [H2]; · iexact H2
      isplitl [H3]; · iexact H3
      iexact H4
    isplitl [R1]; · iexact R1
    iexact R2
  have r : iprop((A ∗ B ∗ C ∗ E) ∗ a ∗ b) ⊢ iprop((A ∗ a) ∗ (B ∗ b) ∗ C ∗ E) := by
    iintro ⟨⟨H1, H2, H3, H4⟩, R1, R2⟩
    isplitl [H1 R1]; · isplitl [H1] <;> iassumption
    isplitl [H2 R2]; · isplitl [H2] <;> iassumption
    isplitl [H3]; · iexact H3
    iexact H4
  exact BI.Entails.antisymm l r

theorem held_all (f : (d : Dev nD) → Buf (Elt F) (uLoc d)) (g : (d : Dev nD) → Buf (Elt F) (wLoc d)) (d : Dev nD) :
    iprop((v0Loc d ↦{fullShare} X d) ∗ (v3Loc d ↦{fullShare} Y d) ∗ (uLoc d ↦{fullShare} f d) ∗ (wLoc d ↦{fullShare} g d))
      = (iprop((bigSep Finset.univ fun w : Fin 32 => held1 X Y f g d w)
        ∗ (v0Loc d ↦{remnant 32 fullShare} X d) ∗ (v3Loc d ↦{remnant 32 fullShare} Y d)) : sProp 𝕄) := by
  rw [bigSep_sep', bigSep_sep', bigSep_sep', pointsTo_pieces (X d) 32 fullShare, pointsTo_pieces (Y d) 32 fullShare, uPts_rows, wPts_rows]
  exact sep_regroup _ _ _ _ _ _

end Cert.Proof
end
-- ==== Proof.Tc.lean ====
/- The TensorCore kernel: its body at a grid point, run once for the first point and once for a later one. -/
module

public import proofs.«01_k».proof.Proof.Tile
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit
public import Idealize.ShloMosaic.Lib.Tactic

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

theorem zero_off : (![0, 0] : Fin 2 → Nat) = fun _ => 0 := funext fun a => by fin_cases a <;> rfl

/-- The body's test for the first grid point. -/
abbrev isFirst (i : grid1.Coords) : Prop :=
  Scalar.cmpi .ne (Scalar.extui (Scalar.cmpi .eq (BitVec.ofNat 32 (i 0).val) 0#32) : BitVec 32) 0#32 = 1#1

/-- A store over a whole buffer, last: what is read afterwards is its payload. -/
theorem read_whole_store {S : Shape} {sp : Space} {κ : Kind} (v : View sig κ sp S .f32) (f : v.ty.Contents (Elt F))
    {off : Fin S.rank → Nat} (h : off = fun _ => 0) (inb : ∀ a, off a + S.size a ≤ S.size a) (w : S.Idx → F .f32)
    (L : List (View.Piece (Elt F) S .f32)) :
    v.read (Elt F) (v.writes (Elt F) f ((⟨Rect.unit off S.size inb, w⟩ : View.Piece (Elt F) S .f32) :: L)) = w :=
  funext fun y => View.read_writes_cons_unit_of_mem v f inb w L y y h fun a => (Nat.zero_add _).symm

section Body

variable (c : Dev nD) (i : grid1.Coords)
  (M1 : Memref sig .tc .vmem S1024x128 .f32) (h1 : M1.IsWhole) (M2 : Memref sig .tc .vmem S2048x128 .f32) (h2 : M2.IsWhole)
  (M3 : Memref sig .tc .vmem S1024x128 .f32) (h3 : M3.IsWhole) (M4 : Memref sig .tc .vmem S1024x128 .f32) (h4 : M4.IsWhole)

/-- At a later point: both outputs' buffers take the point's terms on top of what they hold. -/
theorem tc_later (hc : ¬ isFirst i) (x : Vec F S1024x128 .f32) (y : Vec F S2048x128 .f32) (s n : Vec F S1024x128 .f32) :
    iprop(owns (c : Thread nD τ) M1 fullShare x ∗ owns (c : Thread nD τ) M2 fullShare y ∗ owns (c : Thread nD τ) M3 fullShare s ∗ owns (c : Thread nD τ) M4 fullShare n)
      ⊢ wp frame (wpE (defs₀ (F := F)) 𝒱₀ (c : Thread nD τ) none) Set.univ (cc1__tc_body i M1 h1 M2 h2 M3 h3 M4 h4)
          fun _ => (iprop(owns (c : Thread nD τ) M1 fullShare x ∗ owns (c : Thread nD τ) M2 fullShare y
            ∗ owns (c : Thread nD τ) M3 fullShare (k1_pay6 x y s) ∗ owns (c : Thread nD τ) M4 fullShare (k1_pay1 (k1_pay5 x) n)) : sProp 𝕄) := by
  rw [cc1__tc_body_eq_skeleton]
  simp only [cc1__tc_body_skel, k1_part1_eq_skeleton]
  simp only [k1_part1_skel]
  simp only [owns, h1.set_eq_univ, h2.set_eq_univ, h3.set_eq_univ, h4.set_eq_univ]
  iintro ⟨⟨%f1, %e1, H1⟩, ⟨%f2, %e2, H2⟩, ⟨%f3, %e3, H3⟩, ⟨%f4, %e4, H4⟩⟩
  sl_exec!
  sl_step
  isplitl [H1]; · iexists f1; isplitr; · ipureintro; exact e1
                  iexact H1
  isplitl [H2]; · iexists f2; isplitr; · ipureintro; exact e2
                  iexact H2
  isplitl [H3]
  · iexists _; isplitr; swap; · iexact H3
    ipureintro
    sl_unfold_words
    rw [read_whole_store _ _ zero_off]
    simp only [View.readAt_eq_ld, e1, e2, e3, View.ld_unit_zero (S := S1024x128) zero_off, View.ld_unit_zero (S := S2048x128) zero_off]
  · iexists _; isplitr; swap; · iexact H4
    ipureintro
    sl_unfold_words
    rw [read_whole_store _ _ zero_off]
    simp only [View.readAt_eq_ld, e1, e4, View.ld_unit_zero (S := S1024x128) zero_off]

/-- At the first point: the outputs' buffers, whatever they held, take the point's terms on top of zeros. -/
theorem tc_first (hc : isFirst i) (x : Vec F S1024x128 .f32) (y : Vec F S2048x128 .f32) (s n : Vec F S1024x128 .f32) :
    iprop(owns (c : Thread nD τ) M1 fullShare x ∗ owns (c : Thread nD τ) M2 fullShare y ∗ owns (c : Thread nD τ) M3 fullShare s ∗ owns (c : Thread nD τ) M4 fullShare n)
      ⊢ wp frame (wpE (defs₀ (F := F)) 𝒱₀ (c : Thread nD τ) none) Set.univ (cc1__tc_body i M1 h1 M2 h2 M3 h3 M4 h4)
          fun _ => (iprop(owns (c : Thread nD τ) M1 fullShare x ∗ owns (c : Thread nD τ) M2 fullShare y
            ∗ owns (c : Thread nD τ) M3 fullShare (k1_pay6 x y k1_pay2) ∗ owns (c : Thread nD τ) M4 fullShare (k1_pay1 (k1_pay5 x) k1_pay3)) : sProp 𝕄) := by
  rw [cc1__tc_body_eq_skeleton]
  simp only [cc1__tc_body_skel, k1_part1_eq_skeleton]
  simp only [k1_part1_skel]
  simp only [owns, h1.set_eq_univ, h2.set_eq_univ, h3.set_eq_univ, h4.set_eq_univ]
  iintro ⟨⟨%f1, %e1, H1⟩, ⟨%f2, %e2, H2⟩, ⟨%f3, %e3, H3⟩, ⟨%f4, %e4, H4⟩⟩
  sl_exec!
  sl_step
  isplitl [H1]; · iexists f1; isplitr; · ipureintro; exact e1
                  iexact H1
  isplitl [H2]; · iexists f2; isplitr; · ipureintro; exact e2
                  iexact H2
  isplitl [H3]
  · iexists _; isplitr; swap; · iexact H3
    ipureintro
    sl_unfold_words
    rw [read_whole_store _ _ zero_off]
    simp only [View.readAt_eq_ld, View.readCov_unit_zero (S := S1024x128) _ zero_off, e1, e2, View.ld_unit_zero (S := S1024x128) zero_off, View.ld_unit_zero (S := S2048x128) zero_off]
  · iexists _; isplitr; swap; · iexact H4
    ipureintro
    sl_unfold_words
    rw [read_whole_store _ _ zero_off]
    simp only [View.readAt_eq_ld, View.readCov_unit_zero (S := S1024x128) _ zero_off, e1, View.ld_unit_zero (S := S1024x128) zero_off]

end Body

/-! ## The grid's twelve points: the values -/

section Region

variable (V : (c : Dev nD) → (b : Ref sig .tc) → Buf (Elt F) ((c : Thread nD τ).loc b))

/-- The weights' block at a point, -/
abbrev xB (x : S32768x128.Idx → F .f32) (t : Fin cfg1.N) : Vec F S1024x128 .f32 := (win1_0.blk t).view.read (Elt F) x
/-- and the logits'. -/
abbrev yB (y : S65536x128.Idx → F .f32) (t : Fin cfg1.N) : Vec F S2048x128 .f32 := (win1_1.blk t).view.read (Elt F) y

/-- The partial losses after point `n`, -/
def accS (x : S32768x128.Idx → F .f32) (y : S65536x128.Idx → F .f32) : (n : ℕ) → n < cfg1.N → Vec F S1024x128 .f32
  | 0, h => k1_pay6 (xB x ⟨0, h⟩) (yB y ⟨0, h⟩) k1_pay2
  | n + 1, h => k1_pay6 (xB x ⟨n + 1, h⟩) (yB y ⟨n + 1, h⟩) (accS x y n (Nat.lt_of_succ_lt h))
/-- and the partial counts. -/
def accN (x : S32768x128.Idx → F .f32) : (n : ℕ) → n < cfg1.N → Vec F S1024x128 .f32
  | 0, h => k1_pay1 (k1_pay5 (xB x ⟨0, h⟩)) k1_pay3
  | n + 1, h => k1_pay1 (k1_pay5 (xB x ⟨n + 1, h⟩)) (accN x n (Nat.lt_of_succ_lt h))

/-- The pairs a wait has recorded by the time of the region: none above the SparseCore call's handshakes. -/
def recd (c : Dev nD) : Set (SemLoc sig × HIx 1) := {p | (K (F := F)).lev ((c : Thread nD τ), p.1) p.2 ≤ 8 * 1}

def dat (c : Dev nD) : Dat τ (Elt F) (HIx 1) ℕ UU ℕ cfg1 c where
  A w := V c (Pipeline.arrRef spec1 w)
  after w t := match w with
    | ⟨0, _⟩ => xB (V c main_v5) t
    | ⟨1, _⟩ => yB (V c main_v6) t
    | ⟨2, _⟩ => accS (V c main_v5) (V c main_v6) t.val t.isLt
    | ⟨3, _⟩ => accN (V c main_v5) t.val t.isLt
  Φ _ := Pipeline.scopedRest (Ix := HIx 1) (Name := ℕ) (U := UU) (Lvl := ℕ) (Val := Elt F) spec1 c
  q _ := fullShare
  owed _ := 0
  recorded _ := recd (F := F) c

abbrev pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

theorem before_x (c : Dev nD) (t : Fin cfg1.N) (d) : (dat V c).before 0 t d = xB (V c main_v5) t := by
  unfold Dat.before; rw [if_pos (fetch1_0 t)]; rfl
theorem before_y (c : Dev nD) (t : Fin cfg1.N) (d) : (dat V c).before 1 t d = yB (V c main_v6) t := by
  unfold Dat.before; rw [if_pos (fetch1_1 t)]; rfl

theorem prior_lt (t : Fin cfg1.N) : t.val - 1 < cfg1.N := by omega

theorem before_s (c : Dev nD) (t : Fin cfg1.N) (h : t.val ≠ 0) (d) :
    (dat V c).before 2 t d = accS (V c main_v5) (V c main_v6) (t.val - 1) (prior_lt t) := by
  have hN : cfg1.N = 12 := N_1
  have hf : ¬ (cfg1.win 2).flush ⟨t.val - 1, prior_lt t⟩ = true := fun e => by
    have := (flush1_2 _).mp e; dsimp only at this; have := t.isLt; omega
  unfold Dat.before
  rw [if_neg (by decide +revert), if_neg h]
  dsimp only
  rw [if_neg hf]
  rfl
theorem before_n (c : Dev nD) (t : Fin cfg1.N) (h : t.val ≠ 0) (d) :
    (dat V c).before 3 t d = accN (V c main_v5) (t.val - 1) (prior_lt t) := by
  have hN : cfg1.N = 12 := N_1
  have hf : ¬ (cfg1.win 3).flush ⟨t.val - 1, prior_lt t⟩ = true := fun e => by
    have := (flush1_3 _).mp e; dsimp only at this; have := t.isLt; omega
  unfold Dat.before
  rw [if_neg (by decide +revert), if_neg h]
  dsimp only
  rw [if_neg hf]
  rfl

theorem isFirst_iff : ∀ t : Fin cfg1.N, isFirst (grid1.coords t) ↔ t.val = 0 :=
  (by decide +kernel : ∀ t : Fin grid1.N, isFirst (grid1.coords t) ↔ t.val = 0)

theorem body_obligation (c : Dev nD) : BodyObligation (dat V c) (defs₀ (F := F)) 𝒱₀ none Set.univ := fun t => by
  rw [bigSep_W1, bigSep_W1]
  rw [show (dat V c).owesAt none t.succ = (dat V c).owesAt none t.castSucc from rfl,
    show (dat V c).Φ t.succ = (dat V c).Φ t.castSucc from rfl]
  iintro ⟨HΦ, HO, ⟨%d0, H0⟩, ⟨%d1, H1⟩, ⟨%d2, H2⟩, ⟨%d3, H3⟩⟩
  rw [before_x, before_y]
  by_cases h : t.val = 0
  · obtain ⟨n, hn⟩ := t
    obtain rfl : n = 0 := h
    ihave Hw := tc_first c (grid1.coords ⟨0, hn⟩) _ (hstage1_0 _) _ (hstage1_1 _) _ (hstage1_2 _) _ (hstage1_3 _) ((isFirst_iff ⟨0, hn⟩).mpr rfl) _ _ _ _ $$ [H0 H1 H2 H3]
    · isplitl [H0]; · iexact H0
      isplitl [H1]; · iexact H1
      isplitl [H2]; · iexact H2
      iexact H3
    iapply (wp_wand_r frame _ _)
    isplitl [Hw]; · iexact Hw
    iintro %_ ⟨H0, H1, H2, H3⟩
    isplitl [HΦ]; · iexact HΦ
    isplitl [HO]; · iexact HO
    isplitl [H0]; · iexact H0
    isplitl [H1]; · iexact H1
    isplitl [H2]; · iexact H2
    iexact H3
  · rw [before_s V c t h, before_n V c t h]
    ihave Hw := tc_later c (grid1.coords t) _ (hstage1_0 _) _ (hstage1_1 _) _ (hstage1_2 _) _ (hstage1_3 _) (fun e => h ((isFirst_iff t).mp e)) _ _ _ _ $$ [H0 H1 H2 H3]
    · isplitl [H0]; · iexact H0
      isplitl [H1]; · iexact H1
      isplitl [H2]; · iexact H2
      iexact H3
    obtain ⟨n, hn⟩ := t
    obtain ⟨n, rfl⟩ := Nat.exists_eq_succ_of_ne_zero h
    iapply (wp_wand_r frame _ _)
    isplitl [Hw]; · iexact Hw
    iintro %_ ⟨H0, H1, H2, H3⟩
    isplitl [HΦ]; · iexact HΦ
    isplitl [HO]; · iexact HO
    isplitl [H0]; · iexact H0
    isplitl [H1]; · iexact H1
    isplitl [H2]; · iexact H2
    iexact H3

theorem last_lt : 11 < cfg1.N := by rw [show cfg1.N = 12 from N_1]; decide

/-- The loss array ends holding the partial losses after the last point, -/
theorem final_s (c : Dev nD) : (dat V c).arrAt 2 cfg1.N = accS (V c main_v5) (V c main_v6) 11 last_lt :=
  (dat V c).arrAt_eq_of_after_last 2 ⟨11, last_lt⟩ (by decide +kernel) _ fun _ => rfl
/-- and the count array the partial counts. -/
theorem final_n (c : Dev nD) : (dat V c).arrAt 3 cfg1.N = accN (V c main_v5) 11 last_lt :=
  (dat V c).arrAt_eq_of_after_last 3 ⟨11, last_lt⟩ (by decide +kernel) _ fun _ => rfl

variable (adm : (p : Fin 1) → (pcfgs (F := F) p).Adm)
variable (Vp : (c : Dev nD) → (b : Ref sig .tc) → Buf (Elt F) ((c : Thread nD τ).loc b))

set_option backward.isDefEq.respectTransparency.types false in
/-- The pipelined region: entered with the unscoped buffers at `V`, left with the two result arrays at the
    values above. -/
def reg (R : Dev nD → sProp 𝕄)
    (hs : ∀ c, Vp c main_v7_0 = accS (V c main_v5) (V c main_v6) 11 last_lt)
    (hn : ∀ c, Vp c main_v7_1 = accN (V c main_v5) 11 last_lt)
    (hne : ∀ c (b : Ref sig .tc), b ≠ main_v7_0 → b ≠ main_v7_1 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c
    ∗ ∃ W, ⌜(K (F := F)).WBelow (c : Thread nD τ) W (8 * 1)⌝ ∗ owes (c : Thread nD τ) (0 : CellTallies nD τ sig (HIx 1)) W)
  post c := iprop(unscopedBufs c (Vp c) ∗ R c
    ∗ ∃ W, ⌜(K (F := F)).WBelow (c : Thread nD τ) W (8 * 1)⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have split := Pipeline.arrays_of_unscopedBufs (p := 0) (pcfgs (F := F)) adm (pdats V adm) launch1.win launch1.arr_whole c
      ((pdats V adm 0 c).share_full fun _ => rfl) (V c) fun _ => rfl
    iintro ⟨⟨Hu, HR, ⟨%W, %hW, HO⟩⟩, -, -⟩
    ihave H := split $$ Hu
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr; · ipureintro; exact fun p hp => Or.inl (hW p hp)
      iexact HO
    isplitr; · iempintro
    isplitl [Hz] <;> iassumption
  hin c := by
    rw [show (pdats V adm 0 c).Φ 0 = Pipeline.scopedRest (Ix := HIx 1) (Name := ℕ) (U := UU) (Lvl := ℕ) (Val := Elt F) spec1 c from rfl]
    iintro ⟨-, -, H⟩; iexact H
  hout c := by
    rw [Pipeline.ownSems0_none, show (pdats V adm 0 c).Φ (Fin.last _) = Pipeline.scopedRest (Ix := HIx 1) (Name := ℕ) (U := UU) (Lvl := ℕ) (Val := Elt F) spec1 c from rfl]
    iintro H
    isplitr; · iempintro
    isplitr; · iempintro
    iexact H
  hexit c := by
    have join := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((dat V c).arrAt_in 0 rfl _).trans (hne c main_v5 (by decide) (by decide)).symm
        · exact ((dat V c).arrAt_in 1 rfl _).trans (hne c main_v6 (by decide) (by decide)).symm
        · exact (final_s V c).trans (hs c).symm
        · exact (final_n V c).trans (hn c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hz, HR⟩
    imodintro
    isplitl [Ha Hz]
    · iapply join; isplitl [Ha] <;> iassumption
    isplitl [HR]; · iexact HR
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Region

end Cert.Proof
end
-- ==== Proof.Main.lean ====
/- @main on the TensorCore: its host operations, the SparseCore call, the TensorCore call. -/
module

public import proofs.«01_k».proof.Proof.Sc
public import proofs.«01_k».proof.Proof.Tc
public import Idealize.ShloMosaic.Lib.StableHlo.Run
public import Idealize.ShloMosaic.Lib.StableHlo.RunRead

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The operations -/

/-- The operations before the SparseCore call, -/
abbrev opsA : List (HloOp τ sig (Elt F)) :=
  [StableHlo.reshape main_arg0 main_v0 (rfl : (.f32 : EltTy) = .f32) shapeCasts_S16x262144x1_S4194304,
    StableHlo.reshape main_arg1 main_v1 (rfl : (.f32 : EltTy) = .f32) shapeCasts_S16x262144x2_S16x2048x128x2,
    StableHlo.unary main_v1 main_v2 ((transpose S16x2048x2x128 [0, 1, 3, 2] · transposes_S16x2048x128x2_S16x2048x2x128_0_1_3_2) : (⟨S16x2048x128x2, .f32⟩ : BufTy).Contents (Elt F) → (⟨S16x2048x2x128, .f32⟩ : BufTy).Contents (Elt F)),
    StableHlo.reshape main_v2 main_v3 (rfl : (.f32 : EltTy) = .f32) shapeCasts_S16x2048x2x128_S8388608]
/-- between it and the TensorCore call, -/
abbrev opsB : List (HloOp τ sig (Elt F)) :=
  [StableHlo.reshape main_v0 main_v5 (rfl : (.f32 : EltTy) = .f32) shapeCasts_S4194304_S32768x128,
    StableHlo.reshape main_v3 main_v6 (rfl : (.f32 : EltTy) = .f32) shapeCasts_S8388608_S65536x128]
/-- and after that. -/
abbrev opsC : List (HloOp τ sig (Elt F)) :=
  [StableHlo.nullary main_cst (constant S_ .f32 0x00000000#32),
    StableHlo.binary main_v4_0 main_cst main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_v7_0 main_cst_0 main_v9 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    StableHlo.binary main_v8 main_v9 main_v10 (addf : (⟨S_, .f32⟩ : BufTy).Contents (Elt F) → (⟨S_, .f32⟩ : BufTy).Contents (Elt F) → (⟨S_, .f32⟩ : BufTy).Contents (Elt F)),
    StableHlo.nullary main_cst_1 (constant S_ .f32 0x00000000#32),
    StableHlo.binary main_v4_1 main_cst_1 main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v7_1 main_cst_2 main_v12 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    StableHlo.binary main_v11 main_v12 main_v13 (addf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v13 main_cst_3 main_v14 (cmpf .ogt : (⟨S_, .f32⟩ : BufTy).Contents (Elt F) → (⟨S_, .f32⟩ : BufTy).Contents (Elt F) → (⟨S_, .i1⟩ : BufTy).Contents (Elt F)),
    StableHlo.nullary main_cst_4 (constant S_ .f32 0x3F800000#32),
    StableHlo.binary main_v13 main_cst_4 main_v15 (maximumf : (⟨S_, .f32⟩ : BufTy).Contents (Elt F) → (⟨S_, .f32⟩ : BufTy).Contents (Elt F) → (⟨S_, .f32⟩ : BufTy).Contents (Elt F)),
    StableHlo.binary main_v10 main_v15 main_v16 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.TRef.ternary (.of main_v14) (.of main_v16) (.of main_cst_5) (.of main_v17) select]

theorem main_eq (d : Dev nD) : main (F := F) d = (seq opsA >>= fun _ => sc.run d 0 >>= fun _ => seq opsB >>= fun _ =>
    Prog.lift (.customCall (SparseCore.inner (Pipeline.entry 0)) ()) >>= fun _ => seq opsC >>= fun _ => pure ⟨⟩) := by
  simp only [main, fn_where.body, seq, bind_assoc, pure_bind]

/-- The arrays that live as long as the program. -/
def ucRefs : Finset (DevRef τ sig) := (StableHlo.tcRefs τ sig).filter fun b => ¬ b.isScoped

theorem uc (b : Ref sig .tc) (h : (Proc.devRef (τ := τ) .tc b).isScoped = false) : Proc.devRef (τ := τ) .tc b ∈ ucRefs :=
  Finset.mem_filter.mpr ⟨StableHlo.devRef_mem_tcRefs b, by rw [h]; decide⟩

theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

theorem bufsA : ∀ op ∈ opsA (F := F), op.bufs ⊆ ucRefs := by
  simp only [List.forall_mem_cons, List.not_mem_nil, StableHlo.reshape_bufs, StableHlo.unary_bufs, Finset.insert_subset_iff, Finset.singleton_subset_iff]
  and_intros
  all_goals first | exact uc _ (by decide) | exact fun _ h => h.elim
theorem bufsB : ∀ op ∈ opsB (F := F), op.bufs ⊆ ucRefs := by
  simp only [List.forall_mem_cons, List.not_mem_nil, StableHlo.reshape_bufs, Finset.insert_subset_iff, Finset.singleton_subset_iff]
  and_intros
  all_goals first | exact uc _ (by decide) | exact fun _ h => h.elim
theorem bufsC : ∀ op ∈ opsC (F := F), op.bufs ⊆ ucRefs := by
  simp only [List.forall_mem_cons, List.not_mem_nil, StableHlo.nullary_bufs, StableHlo.binary_bufs, StableHlo.TRef.ternary, StableHlo.ternary_bufs, Finset.insert_subset_iff, Finset.singleton_subset_iff]
  and_intros
  all_goals first | exact uc _ (by decide) | exact fun _ h => h.elim
theorem freshA : ∀ op ∈ opsA (F := F), op.fresh = ∅ := by
  simp only [List.forall_mem_cons]; and_intros
  all_goals first | rfl | exact fun _ h => (List.not_mem_nil h).elim
theorem freshB : ∀ op ∈ opsB (F := F), op.fresh = ∅ := by
  simp only [List.forall_mem_cons]; and_intros
  all_goals first | rfl | exact fun _ h => (List.not_mem_nil h).elim
theorem freshC : ∀ op ∈ opsC (F := F), op.fresh = ∅ := by
  simp only [List.forall_mem_cons]; and_intros
  all_goals first | rfl | exact fun _ h => (List.not_mem_nil h).elim

/-! ## The values, stage by stage -/

variable (m : (ℓ : Loc nD τ sig) → Buf (Elt F) ℓ) (ρ : Dev nD → PrngReg)

abbrev v0' : DevRef τ sig := Proc.devRef .tc (main_v0 : Ref sig .tc)
abbrev v3' : DevRef τ sig := Proc.devRef .tc (main_v3 : Ref sig .tc)
abbrev u' : DevRef τ sig := Proc.devRef .tc (main_v4_0 : Ref sig .tc)
abbrev w' : DevRef τ sig := Proc.devRef .tc (main_v4_1 : Ref sig .tc)
abbrev s' : DevRef τ sig := Proc.devRef .tc (main_v7_0 : Ref sig .tc)
abbrev n' : DevRef τ sig := Proc.devRef .tc (main_v7_1 : Ref sig .tc)

def V0 (d : Dev nD) : Valuation τ sig (Elt F) := fun b => m (d, b)
def V1 (d : Dev nD) : Valuation τ sig (Elt F) := after opsA (V0 m d)
/-- The weights and the logits as the calls read them. -/
def Xv (d : Dev nD) : Buf (Elt F) (v0Loc d) := V1 m d v0'
def Yv (d : Dev nD) : Buf (Elt F) (v3Loc d) := V1 m d v3'
def Ui (d : Dev nD) : Buf (Elt F) (uLoc d) := V1 m d u'
def Wi (d : Dev nD) : Buf (Elt F) (wLoc d) := V1 m d w'
def V2 (d : Dev nD) : Valuation τ sig (Elt F) :=
  Function.update (Function.update (V1 m d) u' (uOut (Xv m) (Yv m) d)) w' (wOut (Xv m) (Yv m) d)
def V3 (d : Dev nD) : Valuation τ sig (Elt F) := after opsB (V2 m d)
def Vr (c : Dev nD) (b : Ref sig .tc) : Buf (Elt F) ((c : Thread nD τ).loc b) := V3 m c (Proc.devRef .tc b)
def V4 (d : Dev nD) : Valuation τ sig (Elt F) :=
  Function.update (Function.update (V3 m d) s' (accS (Vr m d main_v5) (Vr m d main_v6) 11 last_lt)) n' (accN (Vr m d main_v5) 11 last_lt)
def V5 (d : Dev nD) : Valuation τ sig (Elt F) := after opsC (V4 m d)

/-! ## The call's four arrays among them -/

abbrev four : Finset (DevRef τ sig) := {v0', v3', u', w'}
theorem four_sub : four ⊆ ucRefs := by
  simp only [four, Finset.insert_subset_iff, Finset.singleton_subset_iff]
  exact ⟨uc _ (by decide), uc _ (by decide), uc _ (by decide), uc _ (by decide)⟩

theorem held_four (d : Dev nD) (W : Valuation τ sig (Elt F)) :
    (held (T d) ucRefs W : sProp 𝕄)
      = iprop(((v0Loc d ↦{fullShare} W v0') ∗ (v3Loc d ↦{fullShare} W v3') ∗ (uLoc d ↦{fullShare} W u') ∗ (wLoc d ↦{fullShare} W w'))
        ∗ held (T d) (ucRefs \ four) W) := by
  unfold StableHlo.held
  rw [SparseCore.bigSep_sdiff_split' four_sub, SparseCore.bigSep_insert' (by decide), SparseCore.bigSep_insert' (by decide), SparseCore.bigSep_insert' (by decide), bigSep_singleton]

theorem V2_ne (d : Dev nD) (b : DevRef τ sig) (hu : b ≠ u') (hw : b ≠ w') : V2 m d b = V1 m d b :=
  (Function.update_of_ne hw _ _).trans (Function.update_of_ne hu _ _)
theorem V2_u (d : Dev nD) : V2 m d u' = uOut (Xv m) (Yv m) d :=
  (Function.update_of_ne (show u' ≠ w' by decide) _ _).trans (Function.update_self _ _ _)
theorem V2_w (d : Dev nD) : V2 m d w' = wOut (Xv m) (Yv m) d := Function.update_self _ _ _

theorem held_V1 (d : Dev nD) : (held (T d) ucRefs (V1 m d) : sProp 𝕄)
    = iprop(((bigSep Finset.univ fun w : Fin 32 => held1 (Xv m) (Yv m) (Ui m) (Wi m) d w)
        ∗ (v0Loc d ↦{remnant 32 fullShare} Xv m d) ∗ (v3Loc d ↦{remnant 32 fullShare} Yv m d)) ∗ held (T d) (ucRefs \ four) (V1 m d)) := by
  rw [held_four, ← held_all]; rfl
theorem held_rest (d : Dev nD) : (held (T d) (ucRefs \ four) (V2 m d) : sProp 𝕄) = held (T d) (ucRefs \ four) (V1 m d) := by
  unfold StableHlo.held
  refine bigSep_congr fun b hb => ?_
  have hb' := (Finset.mem_sdiff.mp hb).2
  rw [V2_ne m d b (fun e => hb' (e ▸ by decide)) (fun e => hb' (e ▸ by decide))]
theorem held_V2 (d : Dev nD) : (held (T d) ucRefs (V2 m d) : sProp 𝕄)
    = iprop(((bigSep Finset.univ fun w : Fin 32 => held1 (Xv m) (Yv m) (uOut (Xv m) (Yv m)) (wOut (Xv m) (Yv m)) d w)
        ∗ (v0Loc d ↦{remnant 32 fullShare} Xv m d) ∗ (v3Loc d ↦{remnant 32 fullShare} Yv m d)) ∗ held (T d) (ucRefs \ four) (V1 m d)) := by
  rw [held_four, ← held_all, V2_u, V2_w, V2_ne m d v0' (by decide) (by decide), V2_ne m d v3' (by decide) (by decide), held_rest]; rfl

/-! ## The ghost state -/

abbrev EP : Emb UR 𝕄 := (Emb.inl : Emb UR (UR × Counters)).trans embR
instance EP_lands : (EP : Emb UR 𝕄).LandsIn (upEmb : UEmb _ 𝕄) := by unfold EP embR; infer_instance

/-- The one choice there is of what the pipeline is launched at. -/
abbrev adm : (p : Fin 1) → (pcfgs (F := F) p).Adm := fun p => (cfgs p).toPCfg_adm

def u₀ : UU := (initOf (K (F := F)).hsCells (K (F := F)).hsToks,
  (initOf (Pipeline.cells (nD := nD) (τ := τ) cfgs cellOf_inj) (Pipeline.launchToks (nD := nD) (τ := τ) cfgs cellOf_inj), 1))

abbrev G (d : Dev nD) : sProp 𝕄 := iprop(Pipeline.cellsGhost cfgs EP 0 d ∗ Pipeline.toksInit cfgs EP 0 d)

abbrev Pm := P (Xv m) (Yv m) (Ui m) (Wi m)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun t : Thread nD τ => bigSep Finset.univ fun q : Fin 1 => (Pm m).x q t) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost cfgs EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (Φ := fun q => Pipeline.cellsGhost cfgs EP q d) (0 : Fin 1))); iexact Hg
    · iapply (Entails.of_eq (bigSep_congr fun d _ => bigSep_univ_of_subsingleton (Φ := fun q => Pipeline.toksInit cfgs EP q d) (0 : Fin 1))); iexact Ht
  rw [show (bigSep Finset.univ fun t : Thread nD τ => bigSep Finset.univ fun q : Fin 1 => (Pm m).x q t) = iprop(emp) from
    (bigSep_congr fun _ _ => bigSep_univ_of_subsingleton (0 : Fin 1)).trans (bigSep_emp_const _)]
  iempintro

/-! ## The program -/

theorem V4_ne (d : Dev nD) (b : DevRef τ sig) (hs : b ≠ s') (hn : b ≠ n') : V4 m d b = V3 m d b :=
  (Function.update_of_ne hn _ _).trans (Function.update_of_ne hs _ _)
theorem V4_s (d : Dev nD) : V4 m d s' = accS (Vr m d main_v5) (Vr m d main_v6) 11 last_lt :=
  (Function.update_of_ne (show s' ≠ n' by decide) _ _).trans (Function.update_self _ _ _)
theorem V4_n (d : Dev nD) : V4 m d n' = accN (Vr m d main_v5) 11 last_lt := Function.update_self _ _ _

set_option backward.isDefEq.respectTransparency.types false in
/-- The TensorCore call, from the arrays after `opsB`. -/
def tcReg := reg (Vr m) adm (fun c b => V4 m c (Proc.devRef .tc b)) (fun _ => BI.emp) (V4_s m) (V4_n m)
  (fun c b hs hn => V4_ne m c _ (StableHlo.devRef_ne_of_ne hs) (StableHlo.devRef_ne_of_ne hn))

abbrev FIN (d : Dev nD) : sProp 𝕄 := held (T d) ucRefs (V5 m d)

set_option backward.isDefEq.respectTransparency.types false in
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((T d : Thread nD τ).loc b) : sProp 𝕄) = held (T d) ucRefs (V0 m d) from unscopedBufs_held d (V0 m d)]
  iintro ⟨#Hctx, Hst, ⟨Hb, Hheld, Hts, -⟩, Hg, Hk⟩
  iapply (StableHlo.wp_seq 𝒱 none Set.univ d ucRefs _ opsA bufsA freshA (V0 m d)) $$ [Hb Hheld]
  · isplitl [Hb] <;> iassumption
  iintro ⟨Hb, Hheld⟩
  ihave Hh := (Entails.of_eq (show (held (d.tc : Thread nD τ) ucRefs (after opsA (V0 m d)) : sProp 𝕄) = _ from held_V1 m d)) $$ Hheld
  icases Hh with ⟨⟨Hpay, Hx, Hy⟩, Hrest⟩
  rw [wp_bind]
  iapply ((K (F := F)).wp_run (D (F := F)) 𝒱 (EH := EH) (P := Pm m) κ d 0)
  isplitr; · iexact Hctx
  isplitl [Hst]; · iexact Hst
  isplitl [Hpay]; · iapply (Entails.of_eq (st0_eq (Xv m) (Yv m) (Ui m) (Wi m) d).symm); iexact Hpay
  iintro ⟨Hst, Hdn⟩
  ihave Hpay := (Entails.of_eq (dn0_eq (Xv m) (Yv m) (Ui m) (Wi m) d)) $$ Hdn
  iapply (StableHlo.wp_seq 𝒱 none Set.univ d ucRefs _ opsB bufsB freshB (V2 m d)) $$ [Hb Hpay Hx Hy Hrest]
  · isplitl [Hb]; · iexact Hb
    iapply (Entails.of_eq (held_V2 m d).symm)
    isplitr [Hrest]
    · isplitl [Hpay]; · iexact Hpay
      isplitl [Hx] <;> iassumption
    iexact Hrest
  iintro ⟨Hb, Hheld⟩
  rw [wp_bind]
  iapply ((K (F := F)).wp_liftProg (D (F := F)) 𝒱 (T d) Set.univ none (.op (.customCall (Pipeline.entry 0) ()) .ret))
  iapply (Pipeline.RegionSeg.wp pcfgs adm (pdats (Vr m) adm) none cellOf_inj EP defs₀ 𝒱₀ (K (F := F)).L (K (F := F)).lev (tcReg m) d none (by simp) .ret)
  ihave Hst := (Entails.of_eq (show (K (F := F)).tcSt EH d ((0 : Fin 1).val + 1) = (K (F := F)).tcSt EH d 1 from rfl)) $$ Hst
  unfold SparseCore.Cfg.tcSt
  icases Hst with ⟨⟨%W, %hW, HO⟩, Hst⟩
  rw [SparseCore.Cfg.Otc_end (hn := le_rfl)]
  isplitl [Hst Hts]
  · iintro ⟨Hb, Hpost⟩
    rw [wp_ret]; imodintro
    unfold tcReg reg
    icases Hpost with ⟨Hheld, -, HO⟩
    ihave Hheld := (Entails.of_eq (unscopedBufs_held d (V4 m d))) $$ Hheld
    iapply (StableHlo.wp_seq 𝒱 none Set.univ d ucRefs _ opsC bufsC freshC (V4 m d)) $$ [Hb Hheld]
    · isplitl [Hb] <;> iassumption
    iintro ⟨Hb, Hheld⟩
    rw [wp_pure]; imodintro
    isplitl [HO Hst]
    · isplitl [HO] <;> iassumption
    isplitl [Hheld]; · iexact Hheld
    isplitl [Hb] <;> iassumption
  isplitl [Hb]; · iexact Hb
  isplitl [Hheld HO]
  · unfold tcReg reg
    isplitl [Hheld]; · iapply (Entails.of_eq (unscopedBufs_held d (V3 m d)).symm); iexact Hheld
    isplitr; · iempintro
    iexists W
    isplitr; · ipureintro; exact hW
    iexact HO
  isplitr; · iapply ((K (F := F)).ctx_levAts κ); iexact Hctx
  isplitl [Hg] <;> iassumption

/-! ## What the claims read of the final state -/

abbrev a0 : DevRef τ sig := Proc.devRef .tc (main_arg0 : Ref sig .tc)
abbrev a1 : DevRef τ sig := Proc.devRef .tc (main_arg1 : Ref sig .tc)
abbrev res' : DevRef τ sig := Proc.devRef .tc (main_v17 : Ref sig .tc)

theorem V5_of (d : Dev nD) (b : Ref sig .tc) (hA : b ∉ [main_v0, main_v1, main_v2, main_v3]) (hB : b ∉ [main_v4_0, main_v4_1, main_v5, main_v6, main_v7_0, main_v7_1])
    (hC : b ∉ [main_cst, main_v8, main_cst_0, main_v9, main_v10, main_cst_1, main_v11, main_cst_2, main_v12, main_v13, main_cst_3, main_v14, main_cst_4, main_v15, main_v16,
      main_cst_5, main_v17]) : V5 m d (Proc.devRef .tc b) = m (d, Proc.devRef .tc b) := by
  simp only [List.mem_cons, List.not_mem_nil, or_false, not_or] at hB
  have ne (r : Ref sig .tc) (h : ¬ b = r) : Proc.devRef (τ := τ) .tc b ≠ Proc.devRef .tc r := StableHlo.devRef_ne_of_ne h
  unfold V5
  rw [StableHlo.after_of_writes_sub opsC _ (StableHlo.forall_writes_sub_of_map rfl) hC, V4_ne m d _ (ne _ (by simp_all)) (ne _ (by simp_all))]
  unfold V3
  rw [StableHlo.after_of_writes_sub (W := [main_v5, main_v6]) opsB _ (StableHlo.forall_writes_sub_of_map rfl) (by simp_all),
    V2_ne m d _ (ne _ (by simp_all)) (ne _ (by simp_all))]
  unfold V1
  rw [StableHlo.after_of_writes_sub opsA _ (StableHlo.forall_writes_sub_of_map rfl) hA]
  rfl
theorem V5_arg0 (d : Dev nD) : V5 m d a0 = m (d, a0) := V5_of m d main_arg0 (by decide) (by decide) (by decide)
theorem V5_arg1 (d : Dev nD) : V5 m d a1 = m (d, a1) := V5_of m d main_arg1 (by decide) (by decide) (by decide)

theorem held_read (d : Dev nD) (W : Valuation τ sig (Elt F)) (st : Phys nD τ sig (Elt F)) (b : DevRef τ sig) (hb : b ∈ ucRefs) :
    iprop(held (T d) ucRefs W ∗ SI st) ⊢ (⌜st.mem.mem (d, b) = W b⌝ : sProp 𝕄) := by
  have one : (held (T d) ucRefs W : sProp 𝕄) ⊢ ((d, b) ↦{fullShare} W b) := bigSep_elim hb
  iintro ⟨H, HSI⟩
  ihave H := one $$ H
  ihave H := (SI_pointsTo_agree (st := st) (ℓ := (d, b)) (I := Finset.univ) (q := fullShare) (f := W b)) $$ [HSI H]
  · isplitl [HSI] <;> iassumption
  icases H with %h
  ipureintro; exact funext fun i => h i (Finset.mem_univ i)

def fq (d : Dev nD) (st : Phys nD τ sig (Elt F)) : Prop :=
  st.mem.mem (d, res') = V5 m d res' ∧ st.mem.mem (d, a0) = m (d, a0) ∧ st.mem.mem (d, a1) = m (d, a1)

theorem hfin (d : Dev nD) (st : Phys nD τ sig (Elt F)) : iprop(FIN m d ∗ SI st) ⊢ (⌜fq m d st⌝ : sProp 𝕄) := by
  iintro H
  ihave H := (persistent_entails_right (held_read d (V5 m d) st res' (uc _ (by decide)))) $$ H
  icases H with ⟨%h0, H⟩
  ihave H := (persistent_entails_right (held_read d (V5 m d) st a0 (uc _ (by decide)))) $$ H
  icases H with ⟨%h1, H⟩
  ihave H := (held_read d (V5 m d) st a1 (uc _ (by decide))) $$ H
  icases H with %h2
  ipureintro
  exact ⟨h0, h1.trans (V5_arg0 m d), h2.trans (V5_arg1 m d)⟩

def QC : PUnit × MemSt nD τ sig (Elt F) → Prop := fun r =>
  (∀ c : Dev nD, r.2.mem (c, res') = V5 m c res' ∧ r.2.mem (c, a0) = m (c, a0) ∧ r.2.mem (c, a1) = m (c, a1)) ∧ r.2.sem = fun _ => 0

set_option backward.isDefEq.respectTransparency.types false in
theorem run_main [∀ e, Nonempty (Elt F e)] : θ_run (defs (F := F)) (threads (F := F)) ⟨m, fun _ => 0, ρ⟩ (QC m) :=
  SparseCore.Cfg.θ_run_sc_quiescent (K := K) (D := D) (𝒱 := 𝒱) (EH := EH) (P := Pm m) (A := ∅) facts v₀
    (fun q hq => match q with | 0 => nomatch hq)
    (fun q _ => match q with | 0 => tileObl _ _ _ _)
    (fun q _ => match q with | 0 => SparseCore.Cfg.VecSplit.of_plain (vecSplit _ _ _ _))
    m ρ main G (FIN m) u₀ (sep_elim_left.trans (hu₀ m)) (hmain m ρ) (fq m) (hfin m) (QC m) (fun _ h hz => ⟨h, hz⟩)

end Cert.Proof
end
-- ==== Proof.Frames.lean ====
/- The frames: every run ends, leaves the arguments alone and every semaphore at zero. -/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- Over machine floats a named constant is the float printed in the program. -/
local instance namedBits : Named Bits where
  named _ _ {_} bits := Scalar.ofBits _ bits

instance (e : EltTy) : Nonempty (Elt Bits e) := by cases e <;> exact ⟨0#_⟩
instance (e : EltTy) : Nonempty (Elt Ideal e) := by cases e <;> first | exact ⟨0#_⟩ | exact ⟨(0 : EReal)⟩

/-- The two programs run the same bodies: label by label, -/
theorem bodies_eq : Cert.Kernel.defs₀ (F := Bits) = Cert.KernelIdeal.defs₀ (F := Bits) := by
  funext p l a
  match p, l, a with
  | .scVector _ _, 0, _ => rfl
  | .scVector _ _, 1, _ => rfl
  | .scScalar _, 0, _ => rfl
  | .scScalar _, 1, _ => rfl
  | .tc, 0, _ => rfl
  | .tc, 1, (_, _) => rfl

/-- so as tables. -/
theorem tables_eq : Cert.Kernel.defs (F := Bits) = Cert.KernelIdeal.defs (F := Bits) := by
  unfold Cert.Kernel.defs Cert.KernelIdeal.defs
  rw [bodies_eq]
  rfl

theorem frame_kernel : Cert.quiescent_Kernel := fun m ρ _ => by
  rw [tables_eq]
  exact (θ_run Cert.KernelIdeal.defs _ _).mono (fun _ h => ⟨fun c => (h.1 c).2, h.2⟩) (run_main (F := Bits) m ρ)

theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main (F := Ideal) m ρ)

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := IdealRules.named_const.statement _ _ _ _ _ rfl

end Cert.Proof

end
-- ==== Proof.Value.lean ====
/- The result of @main, as one term of its arguments. -/
module

public import proofs.«01_k».proof.Proof.Main

@[expose] public section

noncomputable section

namespace Cert.Proof

open Cert.KernelIdeal Cert.KernelIdeal.Gen
open Idealize.ShloMosaic Idealize.ShloMosaic.TcCoe
open Idealize.ShloMosaic.StableHlo
open Idealize.ShloMosaic.Tactic

variable {F : FTy → Type} [FloatOps F] [Named F]
variable (m : (ℓ : Loc nD τ sig) → Buf (Elt F) ℓ)

/-- `match`, flat. -/
def flatM (a : S16x262144x1.Idx → F .f32) : S4194304.Idx → F .f32 := shapeCast _ a shapeCasts_S16x262144x1_S4194304
/-- The logits, flat: of each 128 anchors, their class-0 logits and then their class-1 logits. -/
def flatL (b : S16x262144x2.Idx → F .f32) : S8388608.Idx → F .f32 :=
  shapeCast _ (transpose S16x2048x2x128 [0, 1, 3, 2] (shapeCast S16x2048x128x2 b shapeCasts_S16x262144x2_S16x2048x128x2)
    transposes_S16x2048x128x2_S16x2048x2x128_0_1_3_2) shapeCasts_S16x2048x2x128_S8388608
/-- The same as the TensorCore call reads them, in rows of 128. -/
def rowsM (x : S4194304.Idx → F .f32) : S32768x128.Idx → F .f32 := shapeCast _ x shapeCasts_S4194304_S32768x128
def rowsL (y : S8388608.Idx → F .f32) : S65536x128.Idx → F .f32 := shapeCast _ y shapeCasts_S8388608_S65536x128

theorem Xv_eq (d : Dev nD) : Xv m d = flatM (m (d, a0)) := by
  unfold Xv V1 v0'; after_reads_simp; rfl
theorem Yv_eq (d : Dev nD) : Yv m d = flatL (m (d, a1)) := by
  unfold Yv V1 v3'; after_reads_simp; rfl
theorem V3_v5 (d : Dev nD) : Vr m d main_v5 = rowsM (Xv m d) := by
  unfold Vr V3; after_reads_simp; rfl
theorem V3_v6 (d : Dev nD) : Vr m d main_v6 = rowsL (Yv m d) := by
  unfold Vr V3; after_reads_simp; rfl

/-- The sum of the losses, SparseCore part and TensorCore part, -/
def lossSum (x : S4194304.Idx → F .f32) (y : S8388608.Idx → F .f32) : FVec F S_ .f32 :=
  addf (Host.reduceAdd (rowsOf fun L => (task L x y).1) (constant S_ .f32 0x00000000#32) reducesTo_S32x16_S_d0_1 h_S_)
    (Host.reduceAdd (accS (rowsM x) (rowsL y) 11 last_lt) (constant S_ .f32 0x00000000#32) reducesTo_S1024x128_S_d0_1 h_S_)
/-- and of the weights. -/
def countSum (x : S4194304.Idx → F .f32) (y : S8388608.Idx → F .f32) : FVec F S_ .f32 :=
  addf (Host.reduceAdd (rowsOf fun L => (task L x y).2) (constant S_ .f32 0x00000000#32) reducesTo_S32x16_S_d0_1 h_S_)
    (Host.reduceAdd (accN (rowsM x) 11 last_lt) (constant S_ .f32 0x00000000#32) reducesTo_S1024x128_S_d0_1 h_S_)
/-- Their quotient, 0 where nothing counts. -/
def mean (s n : FVec F S_ .f32) : FVec F S_ .f32 :=
  select (cmpf .ogt n (constant S_ .f32 0x00000000#32)) (Host.divf s (maximumf n (constant S_ .f32 0x3F800000#32))) (constant S_ .f32 0x00000000#32)

theorem V4_u (d : Dev nD) : V4 m d u' = uOut (Xv m) (Yv m) d := by
  rw [V4_ne m d _ (by decide) (by decide), ← V2_u]
  exact StableHlo.after_of_writes_sub (W := [main_v5, main_v6]) (r := main_v4_0) opsB _ (StableHlo.forall_writes_sub_of_map rfl) (by decide)
theorem V4_w (d : Dev nD) : V4 m d w' = wOut (Xv m) (Yv m) d := by
  rw [V4_ne m d _ (by decide) (by decide), ← V2_w]
  exact StableHlo.after_of_writes_sub (W := [main_v5, main_v6]) (r := main_v4_1) opsB _ (StableHlo.forall_writes_sub_of_map rfl) (by decide)

theorem V5_res (d : Dev nD) : V5 m d res' = mean (lossSum (Xv m d) (Yv m d)) (countSum (Xv m d) (Yv m d)) := by
  unfold lossSum countSum
  rw [← V3_v5, ← V3_v6, ← V4_s, ← V4_n]
  rw [show (rowsOf fun L => (task L (Xv m d) (Yv m d)).1 : S32x16.Idx → F .f32) = V4 m d u' from (V4_u m d).symm,
    show (rowsOf fun L => (task L (Xv m d) (Yv m d)).2 : S32x16.Idx → F .f32) = V4 m d w' from (V4_w m d).symm]
  unfold V5 res' u' w' s' n'
  generalize V4 m d = W
  after_reads_simp
  rfl

end Cert.Proof
end
-- ==== Proof.Scalar.lean ====
/- One anchor over the reals: what either call adds to its accumulators. -/
module

public import proofs.«01_k».proof.Proof.Gen.KernelIdeal.Skeleton
public import Idealize.ShloMosaic.Lib.Pointwise
public import Idealize.ShloMosaic.Lib.IdealHost
public import Idealize.ShloMosaic.PureOps.Ideal.Laws

@[expose] public section

noncomputable section

namespace Cert.Proof

open Idealize.ShloMosaic

/-- The quartic that stands for `log (1 + e)`. -/
def quartic (e : ℝ) : ℝ :=
  (((-(7363495 / 2 ^ 27) * e + 7261467 / 2 ^ 25) * e + -(15571629 / 2 ^ 25)) * e + 2087561 / 2 ^ 21) * e + 9729316 / 2 ^ 36
/-- An anchor's weight, from its `match`, -/
def weight (m : ℝ) : ℝ := m * m
/-- and its weighted loss, from its `match` and the difference of its two logits. -/
def lossOf (m d : ℝ) : ℝ := m * m * (quartic (Real.exp (-|d|)) - min (m * d) 0)

theorem c4 : Ideal.ofBits .f32 0xBD60B74E#32 = ((-(7363495 / 2 ^ 27) : ℝ) : EReal) := by
  simp [Ideal.ofBits, Ideal.ieee, -EReal.coe_mul]; norm_num
theorem c3 : Ideal.ofBits .f32 0x3E5D9A36#32 = ((7261467 / 2 ^ 25 : ℝ) : EReal) := by
  simp [Ideal.ofBits, Ideal.ieee, -EReal.coe_mul]; norm_num
theorem c2 : Ideal.ofBits .f32 0xBEED9AAD#32 = ((-(15571629 / 2 ^ 25) : ℝ) : EReal) := by
  simp [Ideal.ofBits, Ideal.ieee, -EReal.coe_mul]; norm_num
theorem c2' : Ideal.ofBits .f32 0x3EED9AAD#32 = ((15571629 / 2 ^ 25 : ℝ) : EReal) := by
  simp [Ideal.ofBits, Ideal.ieee, -EReal.coe_mul]; norm_num
theorem c1 : Ideal.ofBits .f32 0x3F7ED448#32 = ((2087561 / 2 ^ 21 : ℝ) : EReal) := by
  simp [Ideal.ofBits, Ideal.ieee, -EReal.coe_mul]; norm_num
theorem c0 : Ideal.ofBits .f32 0x39147524#32 = ((9729316 / 2 ^ 36 : ℝ) : EReal) := by
  simp [Ideal.ofBits, Ideal.ieee, -EReal.coe_mul]; norm_num

theorem coe_max (a b : ℝ) : ((max a b : ℝ) : EReal) = max (a : EReal) b := by
  exact EReal.coe_strictMono.monotone.map_max
theorem coe_min (a b : ℝ) : ((min a b : ℝ) : EReal) = min (a : EReal) b := by
  exact EReal.coe_strictMono.monotone.map_min
theorem coe_abs (d : ℝ) : max (d : EReal) (-(d : EReal)) = ((|d| : ℝ) : EReal) := by
  rw [← EReal.coe_neg, ← coe_max]; rfl

/-- The quartic as either call computes it. -/
theorem quartic_coe (e : ℝ) :
    (((Ideal.ofBits .f32 0xBD60B74E#32 * (e : EReal) + Ideal.ofBits .f32 0x3E5D9A36#32) * e + Ideal.ofBits .f32 0xBEED9AAD#32) * e
      + Ideal.ofBits .f32 0x3F7ED448#32) * e + Ideal.ofBits .f32 0x39147524#32 = ((quartic e : ℝ) : EReal) := by
  rw [c4, c3, c2, c1, c0]; unfold quartic; push_cast; rfl

theorem zero_bits : Ideal.ofBits .f32 0x00000000#32 = 0 := by simp [Ideal.ofBits, Ideal.ieee]

/-- The SparseCore's exponential of `-|d|`, -/
theorem exp_sc (d : ℝ) : Ideal.exp (0 - ((|d| : ℝ) : EReal)) = ((Real.exp (-|d|) : ℝ) : EReal) := by
  rw [← EReal.coe_zero, ← EReal.coe_sub, Ideal.exp_coe, zero_sub]
/-- and the TensorCore's, a power of two. -/
theorem exp_tc (d : ℝ) : Ideal.exp2 (((|d| : ℝ) : EReal) * ((-(Real.log 2)⁻¹ : ℝ) : EReal)) = ((Real.exp (-|d|) : ℝ) : EReal) := by
  rw [← EReal.coe_mul, Ideal.exp2_coe]
  congr 1
  have h2 : Real.log 2 ≠ 0 := (Real.log_pos (by norm_num)).ne'
  rw [Real.rpow_eq_pow, Real.rpow_def_of_pos (by norm_num)]
  congr 1
  field_simp

end Cert.Proof
end
-- ==== Proof.Sums.lean ====
/- The SparseCore call's accumulators as sums over the anchors. -/
module

public import proofs.«01_k».proof.Proof.Value
public import proofs.«01_k».proof.Proof.Scalar

@[expose] public section

noncomputable section

namespace Cert.Proof

open Cert.KernelIdeal Cert.KernelIdeal.Gen
open Idealize.ShloMosaic

/-! ## Sums cut into blocks -/

theorem sum_blocks (a b : ℕ) (f : ℕ → ℝ) :
    ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-! ## The anchors of a flat array -/

/-- Anchor `n`'s entry of the flat `match`, -/
def mAt (x : S4194304.Idx → EReal) (n : ℕ) : EReal := x (ix1 ⟨n % 4194304, Nat.mod_lt _ (by norm_num)⟩)
/-- and its logit of class `c`. -/
def lAt (y : S8388608.Idx → EReal) (c n : ℕ) : EReal := y (ix1 ⟨(n / 128 * 256 + 128 * c + n % 128) % 8388608, Nat.mod_lt _ (by norm_num)⟩)

/-- The flat arrays hold these reals. -/
structure Holds (x : S4194304.Idx → EReal) (y : S8388608.Idx → EReal) (μ δ : ℕ → ℝ) : Prop where
  m : ∀ n < 4194304, mAt x n = (μ n : EReal)
  d : ∀ n < 4194304, ∃ l₀ l₁ : ℝ, lAt y 0 n = (l₀ : EReal) ∧ lAt y 1 n = (l₁ : EReal) ∧ δ n = l₁ - l₀

/-! ## One group of sixteen anchors -/

theorem pay2_at (a m l₀ l₁ : FVec Ideal S16 .f32) (j : S16.Idx) (μ r₀ r₁ : ℝ) (hm : m j = (μ : EReal)) (h₀ : l₀ j = (r₀ : EReal)) (h₁ : l₁ j = (r₁ : EReal)) :
    k0_pay2 (F := Ideal) a m l₀ l₁ j = a j + ((lossOf μ (r₁ - r₀) : ℝ) : EReal) := by
  have e : k0_pay2 (F := Ideal) a m l₀ l₁ j = a j + m j * m j * ((((((Ideal.ofBits .f32 0xBD60B74E#32 * Ideal.exp (Ideal.ofBits .f32 0x00000000#32 - max (l₁ j - l₀ j) (-(l₁ j - l₀ j)))
      + Ideal.ofBits .f32 0x3E5D9A36#32) * Ideal.exp (Ideal.ofBits .f32 0x00000000#32 - max (l₁ j - l₀ j) (-(l₁ j - l₀ j)))
      + Ideal.ofBits .f32 0xBEED9AAD#32) * Ideal.exp (Ideal.ofBits .f32 0x00000000#32 - max (l₁ j - l₀ j) (-(l₁ j - l₀ j)))
      + Ideal.ofBits .f32 0x3F7ED448#32) * Ideal.exp (Ideal.ofBits .f32 0x00000000#32 - max (l₁ j - l₀ j) (-(l₁ j - l₀ j)))
      + Ideal.ofBits .f32 0x39147524#32)) - min (m j * (l₁ j - l₀ j)) (Ideal.ofBits .f32 0x00000000#32)) := rfl
  rw [e, hm, h₀, h₁, ← EReal.coe_sub, coe_abs, zero_bits, exp_sc, quartic_coe]
  unfold lossOf
  rw [EReal.coe_mul, EReal.coe_mul, EReal.coe_sub _ (min _ _), coe_min, EReal.coe_mul μ (_ - _), EReal.coe_sub, EReal.coe_zero]

theorem pay3_at (a m : FVec Ideal S16 .f32) (j : S16.Idx) (μ : ℝ) (hm : m j = (μ : EReal)) :
    k0_pay3 (F := Ideal) a m j = a j + ((weight μ : ℝ) : EReal) := by
  have e : k0_pay3 (F := Ideal) a m j = a j + m j * m j := rfl
  rw [e, hm]; unfold weight; rw [EReal.coe_mul]

/-- Accumulators that are a start plus real sums. -/
structure Adds (a b : Acc Ideal) (j : S16.Idx) (s w : ℝ) : Prop where
  s : b.1 j = a.1 j + (s : EReal)
  w : b.2 j = a.2 j + (w : EReal)

theorem Adds.refl (a : Acc Ideal) (j : S16.Idx) : Adds a a j 0 0 := ⟨by simp, by simp⟩
theorem Adds.trans {a b c : Acc Ideal} {j : S16.Idx} {s w s' w' : ℝ} (h : Adds a b j s w) (h' : Adds b c j s' w') : Adds a c j (s + s') (w + w') :=
  ⟨by rw [h'.s, h.s, EReal.coe_add, add_assoc], by rw [h'.w, h.w, EReal.coe_add, add_assoc]⟩
theorem Adds.congr {a b : Acc Ideal} {j : S16.Idx} {s w s' w' : ℝ} (h : Adds a b j s w) (hs : s = s') (hw : w = w') : Adds a b j s' w' := hs ▸ hw ▸ h

section Task
variable (L : grid0.Coords) {x : S4194304.Idx → EReal} {y : S8388608.Idx → EReal} {μ δ : ℕ → ℝ} (H : Holds x y μ δ)

/-- The worker's number. -/
abbrev wk (L : grid0.Coords) : ℕ := 2 * (L 1).val + (L 0).val
theorem wk_lt (L : grid0.Coords) : wk L < 32 := by
  have h0 : (L 0).val < 2 := (L 0).isLt
  have h1 : (L 1).val < 16 := (L 1).isLt
  unfold wk; omega
/-- The anchor of lane `j` in group `u`, pass `k`, chunk `r` of the worker's share. -/
abbrev anchor (L : grid0.Coords) (r k u j : ℕ) : ℕ := 81920 * wk L + (8192 * r + (128 * k + (16 * u + j)))

theorem mRd_at (r : Fin 10) (k : Fin 64) (u : Fin 8) (j : S16.Idx) :
    mRd (F := Ideal) (mCh L x r) k u j = mAt x (anchor L r k u (j 0).val) := by
  unfold mRd mCh mAt
  congr 1
  funext a
  fin_cases a
  apply Fin.ext
  have := wk_lt L; have := r.isLt; have := k.isLt; have := u.isLt; have hj : (j 0).val < 16 := (j 0).isLt
  show k0_off1 L (BitVec.ofNat 32 (8192 * r.val)) 0 + 1 * (k0_off3 k (BitVec.ofNat 32 (16 * u.val)) 0 + 1 * (j 0).val) = anchor L r k u (j 0).val % 4194304
  have h : k0_off1 L (BitVec.ofNat 32 (8192 * r.val)) 0 = 163840 * (L 1).val + 81920 * (L 0).val + 8192 * r.val := congrFun (k0_off1_eq L r) 0
  have h' : k0_off3 k (BitVec.ofNat 32 (16 * u.val)) 0 = 128 * k.val + 16 * u.val := congrFun (k0_off3_eq k u) 0
  rw [h, h']
  unfold anchor wk at *
  omega
/-- Where the logits of an anchor of the worker lie. -/
theorem logit_pos (r : Fin 10) (k : Fin 64) (u : Fin 8) (j : S16.Idx) (c : ℕ) (hc : c < 2) :
    163840 * wk L + 16384 * r.val + (256 * k.val + 128 * c + 16 * u.val + (j 0).val)
      = (anchor L r k u (j 0).val / 128 * 256 + 128 * c + anchor L r k u (j 0).val % 128) % 8388608 := by
  have := wk_lt L; have := r.isLt; have := k.isLt; have := u.isLt; have hj : (j 0).val < 16 := (j 0).isLt
  have e : anchor L r k u (j 0).val = 128 * (640 * wk L + 64 * r.val + k.val) + (16 * u.val + (j 0).val) := by unfold anchor; omega
  rw [e]
  generalize wk L = w at *
  omega
theorem lRd0_at (r : Fin 10) (k : Fin 64) (u : Fin 8) (j : S16.Idx) :
    lRd0 (F := Ideal) (lCh L y r) k u j = lAt y 0 (anchor L r k u (j 0).val) := by
  unfold lRd0 lCh lAt
  congr 1
  funext a
  fin_cases a
  apply Fin.ext
  show k0_off2 L (BitVec.ofNat 32 (8192 * r.val)) 0 + 1 * (k0_off4 k (BitVec.ofNat 32 (16 * u.val)) 0 + 1 * (j 0).val) = _
  refine Eq.trans ?_ (logit_pos L r k u j 0 (by norm_num))
  have h : k0_off2 L (BitVec.ofNat 32 (8192 * r.val)) 0 = 327680 * (L 1).val + 163840 * (L 0).val + 16384 * r.val := congrFun (k0_off2_eq L r) 0
  have h' : k0_off4 k (BitVec.ofNat 32 (16 * u.val)) 0 = 256 * k.val + 16 * u.val := congrFun (k0_off4_eq k u) 0
  rw [h, h']
  unfold wk
  omega
theorem lRd1_at (r : Fin 10) (k : Fin 64) (u : Fin 8) (j : S16.Idx) :
    lRd1 (F := Ideal) (lCh L y r) k u j = lAt y 1 (anchor L r k u (j 0).val) := by
  unfold lRd1 lCh lAt
  congr 1
  funext a
  fin_cases a
  apply Fin.ext
  show k0_off2 L (BitVec.ofNat 32 (8192 * r.val)) 0 + 1 * (k0_off5 k (BitVec.ofNat 32 (16 * u.val)) 0 + 1 * (j 0).val) = _
  refine Eq.trans ?_ (logit_pos L r k u j 1 (by norm_num))
  have h : k0_off2 L (BitVec.ofNat 32 (8192 * r.val)) 0 = 327680 * (L 1).val + 163840 * (L 0).val + 16384 * r.val := congrFun (k0_off2_eq L r) 0
  have h' : k0_off5 k (BitVec.ofNat 32 (16 * u.val)) 0 = 256 * k.val + 16 * u.val + 128 := congrFun (k0_off5_eq k u) 0
  rw [h, h']
  unfold wk
  omega

theorem anchor_lt (r : Fin 10) (k : Fin 64) (u : Fin 8) (j : S16.Idx) : anchor L r k u (j 0).val < 4194304 := by
  have := wk_lt L; have := r.isLt; have := k.isLt; have := u.isLt; have h : (j 0).val < 16 := (j 0).isLt
  unfold anchor; omega

include H in
theorem grp_adds (r : Fin 10) (k : Fin 64) (a : Acc Ideal) (u : Fin 8) (j : S16.Idx) :
    Adds a (grp (mCh L x r) (lCh L y r) k a u) j (lossOf (μ (anchor L r k u (j 0).val)) (δ (anchor L r k u (j 0).val)))
      (weight (μ (anchor L r k u (j 0).val))) := by
  obtain ⟨l₀, l₁, h₀, h₁, hd⟩ := H.d _ (anchor_lt L r k u j)
  have hm := H.m _ (anchor_lt L r k u j)
  rw [hd]
  exact ⟨pay2_at _ _ _ _ j _ _ _ ((mRd_at L r k u j).trans hm) ((lRd0_at L r k u j).trans h₀) ((lRd1_at L r k u j).trans h₁),
    pay3_at _ _ j _ ((mRd_at L r k u j).trans hm)⟩

/-- The sums of pass `k`'s anchors at lane `j`. -/
abbrev passSum (f : ℕ → ℝ) (L : grid0.Coords) (r k j : ℕ) : ℝ := ∑ u ∈ Finset.range 8, f (anchor L r k u j)

include H in
theorem trip_adds (r : Fin 10) (k : Fin 64) (a : Acc Ideal) (j : S16.Idx) :
    Adds a (trip (mCh L x r) (lCh L y r) k a) j (passSum (fun n => lossOf (μ n) (δ n)) L r k (j 0).val) (passSum (fun n => weight (μ n)) L r k (j 0).val) := by
  have g := fun a u => grp_adds L H r k a u j
  refine ((((((((Adds.refl a j).trans (g _ 0)).trans (g _ 1)).trans (g _ 2)).trans (g _ 3)).trans (g _ 4)).trans (g _ 5)).trans (g _ 6)).trans (g _ 7) |>.congr ?_ ?_
  all_goals simp only [passSum, Finset.sum_range_succ, Finset.sum_range_zero]; rfl

include H in
theorem trips_adds (r : Fin 10) (a : Acc Ideal) (j : S16.Idx) (n : ℕ) (hn : n ≤ 64) :
    Adds a (trips (mCh L x r) (lCh L y r) a n) j (∑ k ∈ Finset.range n, passSum (fun n => lossOf (μ n) (δ n)) L r k (j 0).val)
      (∑ k ∈ Finset.range n, passSum (fun n => weight (μ n)) L r k (j 0).val) := by
  induction n with
  | zero => exact Adds.refl a j
  | succ n ih =>
    rw [Finset.sum_range_succ, Finset.sum_range_succ]
    simp only [trips, dif_pos (show n < 64 by omega)]
    exact (ih (by omega)).trans (trip_adds L H r ⟨n, by omega⟩ _ j)

/-- The sums of the worker's anchors at lane `j`. -/
abbrev laneSum (f : ℕ → ℝ) (L : grid0.Coords) (j : ℕ) : ℝ := ∑ r ∈ Finset.range 10, ∑ k ∈ Finset.range 64, passSum f L r k j

include H in
theorem task_adds (j : S16.Idx) :
    Adds (k0_pay311 (F := Ideal), k0_pay312 (F := Ideal)) (task L x y) j (laneSum (fun n => lossOf (μ n) (δ n)) L (j 0).val) (laneSum (fun n => weight (μ n)) L (j 0).val) := by
  have g := fun (a : Acc Ideal) (r : Fin 10) => trips_adds L H r a j 64 le_rfl
  refine ((((((((((Adds.refl _ j).trans (g _ 0)).trans (g _ 1)).trans (g _ 2)).trans (g _ 3)).trans (g _ 4)).trans (g _ 5)).trans (g _ 6)).trans (g _ 7)).trans (g _ 8)).trans (g _ 9)
    |>.congr ?_ ?_
  all_goals simp only [laneSum, Finset.sum_range_succ (n := 9), Finset.sum_range_succ (n := 8), Finset.sum_range_succ (n := 7), Finset.sum_range_succ (n := 6), Finset.sum_range_succ (n := 5),
    Finset.sum_range_succ (n := 4), Finset.sum_range_succ (n := 3), Finset.sum_range_succ (n := 2), Finset.sum_range_succ (n := 1), Finset.sum_range_succ (n := 0), Finset.sum_range_zero]; rfl

end Task

/-- All workers' lanes together are the first ten sixteenths of the anchors. -/
theorem lanes_total (f : ℕ → ℝ) :
    ∑ w ∈ Finset.range 32, ∑ j ∈ Finset.range 16, (∑ r ∈ Finset.range 10, ∑ k ∈ Finset.range 64, ∑ u ∈ Finset.range 8, f (81920 * w + (8192 * r + (128 * k + (16 * u + j)))))
      = ∑ n ∈ Finset.range 2621440, f n := by
  have inner (w : ℕ) : ∑ j ∈ Finset.range 16, (∑ r ∈ Finset.range 10, ∑ k ∈ Finset.range 64, ∑ u ∈ Finset.range 8, f (81920 * w + (8192 * r + (128 * k + (16 * u + j)))))
      = ∑ n ∈ Finset.range 81920, f (81920 * w + n) := by
    rw [Finset.sum_comm, ← sum_blocks 10 8192 fun n => f (81920 * w + n)]
    refine Finset.sum_congr rfl fun r _ => ?_
    rw [Finset.sum_comm, ← sum_blocks 64 128 fun n => f (81920 * w + (8192 * r + n))]
    refine Finset.sum_congr rfl fun k _ => ?_
    rw [Finset.sum_comm, ← sum_blocks 8 16 fun n => f (81920 * w + (8192 * r + (128 * k + n)))]
  rw [Finset.sum_congr rfl fun w _ => inner w, sum_blocks 32 81920 f]

end Cert.Proof
end
-- ==== Proof.SumsTc.lean ====
/- The TensorCore call's accumulators as sums over the anchors, and the two totals. -/
module

public import proofs.«01_k».proof.Proof.Sums
public import Idealize.ShloMosaic.Lib.Pointwise
public import Idealize.ShloMosaic.Lib.Pipeline.ValueKit.Geometry

@[expose] public section

noncomputable section

namespace Cert.Proof

open Cert.KernelIdeal Cert.KernelIdeal.Gen
open Idealize.ShloMosaic Idealize.ShloMosaic.TcCoe

theorem index1_0 : ∀ t : Fin cfg1.N, win1_0.index t = ![20 + t.val, 0] := (by decide +kernel : ∀ t : Fin grid1.N, _)
theorem index1_1 : ∀ t : Fin cfg1.N, win1_1.index t = ![20 + t.val, 0] := (by decide +kernel : ∀ t : Fin grid1.N, _)

section Point
variable {x : S4194304.Idx → EReal} {y : S8388608.Idx → EReal} {μ δ : ℕ → ℝ}

theorem lt_twelve (t : Fin cfg1.N) : t.val < 12 := t.isLt

theorem rowsM_at (a : Fin 32768) (b : Fin 128) : rowsM (F := Ideal) x (ix2 a b) = mAt x (128 * a.val + b.val) := by
  unfold rowsM mAt
  pointwise
  exact congrArg (fun i => x (ix1 i)) (Fin.ext (by show a.val * 128 + b.val = (128 * a.val + b.val) % 4194304; omega))
theorem rowsL_at (a : Fin 65536) (b : Fin 128) : rowsL (F := Ideal) y (ix2 a b) = y (ix1 ⟨128 * a.val + b.val, by omega⟩) := by
  unfold rowsL
  pointwise
  exact congrArg (fun i => y (ix1 i)) (Fin.ext (by show a.val * 128 + b.val = 128 * a.val + b.val; omega))

/-- The anchor of row `a`, column `b` of block `t`. -/
abbrev tcAnchor (t a b : ℕ) : ℕ := 2621440 + (131072 * t + (128 * a + b))

theorem xB_at (t : Fin cfg1.N) (a : Fin 1024) (b : Fin 128) : xB (F := Ideal) (rowsM x) t (ix2 a b) = mAt x (tcAnchor t a b) := by
  have ht := lt_twelve t
  have e : (win1_0.blk t).view.emb (ix2 a b) = ix2 ⟨(20 + t.val) * 1024 + a.val, by omega⟩ b := by blk_ext [index1_0]
  blk_simp [xB]
  refine (congrArg (rowsM (F := Ideal) x) e).trans ((rowsM_at _ _).trans (congrArg (mAt x) ?_))
  show 128 * ((20 + t.val) * 1024 + a.val) + b.val = _
  unfold tcAnchor; omega
theorem yB_at (t : Fin cfg1.N) (a : Fin 1024) (b : Fin 128) (c : Fin 2) :
    yB (F := Ideal) (rowsL y) t (ix2 ⟨2 * a.val + c.val, by omega⟩ b) = lAt y c (tcAnchor t a b) := by
  have ht := lt_twelve t
  have e : (win1_1.blk t).view.emb (ix2 ⟨2 * a.val + c.val, by omega⟩ b) = ix2 ⟨(20 + t.val) * 2048 + (2 * a.val + c.val), by omega⟩ b := by
    blk_ext [index1_1]
  blk_simp [yB]
  refine (congrArg (rowsL (F := Ideal) y) e).trans ((rowsL_at _ _).trans ?_)
  unfold lAt
  refine congrArg (fun i => y (ix1 i)) (Fin.ext ?_)
  show 128 * ((20 + t.val) * 2048 + (2 * a.val + c.val)) + b.val = (tcAnchor t a b / 128 * 256 + 128 * c.val + tcAnchor t a b % 128) % 8388608
  have h : tcAnchor t a b = 128 * (20480 + 1024 * t.val + a.val) + b.val := by unfold tcAnchor; omega
  rw [h]; omega

theorem pay6_at (v3 : Vec Ideal S1024x128 .f32) (v5 : Vec Ideal S2048x128 .f32) (v36 : Vec Ideal S1024x128 .f32) (a : Fin 1024) (b : Fin 128) (m r₀ r₁ : ℝ)
    (hm : v3 (ix2 a b) = (m : EReal)) (h₀ : v5 (ix2 ⟨2 * a.val + (0 : Fin 2).val, by omega⟩ b) = (r₀ : EReal)) (h₁ : v5 (ix2 ⟨2 * a.val + (1 : Fin 2).val, by omega⟩ b) = (r₁ : EReal)) :
    k1_pay6 (F := Ideal) v3 v5 v36 (ix2 a b) = v36 (ix2 a b) + ((lossOf m (r₁ - r₀) : ℝ) : EReal) := by
  pointwise [k1_pay6, k1_pay5, k1_pay4]
  have i₀ : (⟨a.val * 2, by omega⟩ : Fin 2048) = ⟨2 * a.val + (0 : Fin 2).val, by omega⟩ := Fin.ext (by show a.val * 2 = 2 * a.val + 0; omega)
  have i₁ : (⟨a.val * 2 + 1, by omega⟩ : Fin 2048) = ⟨2 * a.val + (1 : Fin 2).val, by omega⟩ := Fin.ext (by show a.val * 2 + 1 = 2 * a.val + 1; omega)
  have hκ : (Named.named κ "neg_log2_e" 0xBFB8AA3B#32 : Ideal .f32) = ((-(Real.log 2)⁻¹ : ℝ) : EReal) := rfl
  rw [i₀, i₁, hκ, hm, h₀, h₁, ← EReal.coe_sub]
  have he : FloatOps.exp2 (F := Ideal) (φ := .f32) (FloatOps.absf (F := Ideal) (φ := .f32) ((r₁ - r₀ : ℝ) : EReal) * ((-(Real.log 2)⁻¹ : ℝ) : EReal))
      = ((Real.exp (-|r₁ - r₀|) : ℝ) : EReal) := by
    refine Eq.trans ?_ (exp_tc (r₁ - r₀))
    rw [← coe_abs]; rfl
  rw [he, quartic_coe]
  unfold lossOf
  rw [EReal.coe_mul, EReal.coe_mul, EReal.coe_sub _ (min _ _), coe_min, EReal.coe_mul m (_ - _), EReal.coe_zero]

theorem pay1_at (v3 v41 : Vec Ideal S1024x128 .f32) (a : Fin 1024) (b : Fin 128) (m : ℝ) (hm : v3 (ix2 a b) = (m : EReal)) :
    k1_pay1 (F := Ideal) (k1_pay5 v3) v41 (ix2 a b) = v41 (ix2 a b) + ((weight m : ℝ) : EReal) := by
  pointwise [k1_pay1, k1_pay5, k1_pay4]
  rw [hm]; unfold weight; rw [EReal.coe_mul]

theorem tcAnchor_lt (t : Fin cfg1.N) (a : Fin 1024) (b : Fin 128) : tcAnchor t a b < 4194304 := by
  have := lt_twelve t; unfold tcAnchor; omega

variable (H : Holds x y μ δ)
include H

theorem step_loss (t : Fin cfg1.N) (a : Fin 1024) (b : Fin 128) (v : Vec Ideal S1024x128 .f32) :
    k1_pay6 (F := Ideal) (xB (rowsM x) t) (yB (rowsL y) t) v (ix2 a b)
      = v (ix2 a b) + ((lossOf (μ (tcAnchor t a b)) (δ (tcAnchor t a b)) : ℝ) : EReal) := by
  obtain ⟨l₀, l₁, h₀, h₁, hd⟩ := H.d _ (tcAnchor_lt t a b)
  rw [hd]
  exact pay6_at _ _ v a b _ _ _ ((xB_at t a b).trans (H.m _ (tcAnchor_lt t a b))) ((yB_at t a b 0).trans h₀) ((yB_at t a b 1).trans h₁)

theorem accS_at (n : ℕ) (h : n < cfg1.N) (a : Fin 1024) (b : Fin 128) :
    accS (F := Ideal) (rowsM x) (rowsL y) n h (ix2 a b)
      = ((∑ t ∈ Finset.range (n + 1), lossOf (μ (tcAnchor t a b)) (δ (tcAnchor t a b)) : ℝ) : EReal) := by
  induction n with
  | zero =>
    rw [accS, step_loss H ⟨0, h⟩ a b, Finset.sum_range_one]
    exact (congrArg (· + _) zero_bits).trans (zero_add _)
  | succ n ih => rw [accS, step_loss H ⟨n + 1, h⟩ a b, ih, Finset.sum_range_succ _ (n + 1), EReal.coe_add]

theorem accN_at (n : ℕ) (h : n < cfg1.N) (a : Fin 1024) (b : Fin 128) :
    accN (F := Ideal) (rowsM x) n h (ix2 a b) = ((∑ t ∈ Finset.range (n + 1), weight (μ (tcAnchor t a b)) : ℝ) : EReal) := by
  have step (t : Fin cfg1.N) (v : Vec Ideal S1024x128 .f32) := pay1_at _ v a b _ ((xB_at t a b).trans (H.m _ (tcAnchor_lt t a b)))
  induction n with
  | zero =>
    rw [accN, step ⟨0, h⟩, Finset.sum_range_one]
    exact (congrArg (· + _) zero_bits).trans (zero_add _)
  | succ n ih => rw [accN, step ⟨n + 1, h⟩, ih, Finset.sum_range_succ _ (n + 1), EReal.coe_add]

omit H in
/-- All blocks together are the last six sixteenths of the anchors. -/
theorem blocks_total (f : ℕ → ℝ) :
    ∑ a ∈ Finset.range 1024, ∑ b ∈ Finset.range 128, ∑ t ∈ Finset.range 12, f (tcAnchor t a b) = ∑ n ∈ Finset.range 1572864, f (2621440 + n) := by
  rw [← sum_blocks 12 131072 fun n => f (2621440 + n)]
  rw [Finset.sum_congr rfl fun a _ => Finset.sum_comm, Finset.sum_comm]
  refine Finset.sum_congr rfl fun t _ => ?_
  rw [← sum_blocks 1024 128 fun n => f (2621440 + (131072 * t + n))]

omit H in
/-- A sum over a rank-2 array of real entries. -/
theorem sum_array {n k : ℕ} (v : (⟨2, ![n, k]⟩ : Shape).Idx → EReal) (g : ℕ → ℕ → ℝ) (h : ∀ a b, v (ix2 a b) = ((g a.val b.val : ℝ) : EReal)) :
    ∑ i, v i = ((∑ a ∈ Finset.range n, ∑ b ∈ Finset.range k, g a b : ℝ) : EReal) := by
  rw [sum_idx2, Finset.sum_range, coe_sum]
  refine Finset.sum_congr rfl fun a _ => ?_
  rw [Finset.sum_range, coe_sum]
  exact Finset.sum_congr rfl fun b _ => h a b

omit H in
/-- The host's sum of a whole array. -/
theorem total {s : Shape} {axes : List (Fin s.rank)} (h' : s.ReducesTo axes S_) (v : FVec Ideal s .f32) (r : ℝ) (hr : ∑ i, v i = (r : EReal)) (j : S_.Idx) :
    Host.reduceAdd (F := Ideal) v (constant S_ .f32 0x00000000#32) h' h_S_ j = (r : EReal) := by
  have e : Host.reduceAdd (F := Ideal) v (constant S_ .f32 0x00000000#32) h' h_S_ j = Ideal.hostReduceAdd h' v (Ideal.ofBits .f32 0x00000000#32) j := by
    rw [Host.reduceAdd_apply]; rfl
  rw [e, Ideal.hostReduceAdd_total h' (fun b => b.elim0), zero_bits, zero_add, hr]

omit H in
theorem owner_wk (w : Fin 32) : wk (owner w) = w.val := by
  revert w; decide +kernel

/-- The sum of lane `j` of worker `w`. -/
def lane (f : ℕ → ℝ) (w j : ℕ) : ℝ :=
  ∑ r ∈ Finset.range 10, ∑ k ∈ Finset.range 64, ∑ u ∈ Finset.range 8, f (81920 * w + (8192 * r + (128 * k + (16 * u + j))))
omit H in
theorem lane_total (f : ℕ → ℝ) : ∑ w ∈ Finset.range 32, ∑ j ∈ Finset.range 16, lane f w j = ∑ n ∈ Finset.range 2621440, f n := lanes_total f

theorem rows_loss (w : Fin 32) (j : Fin 16) :
    rowsOf (F := Ideal) (fun L => (task (F := Ideal) L x y).1) (ix2 w j)
      = ((lane (fun n => lossOf (μ n) (δ n)) w j : ℝ) : EReal) := by
  have h := (task_adds (owner w) H (fun | 0 => j)).s
  unfold lane
  rw [← owner_wk w]
  exact h.trans ((congrArg (· + _) zero_bits).trans (zero_add _))
theorem rows_count (w : Fin 32) (j : Fin 16) :
    rowsOf (F := Ideal) (fun L => (task (F := Ideal) L x y).2) (ix2 w j)
      = ((lane (fun n => weight (μ n)) w j : ℝ) : EReal) := by
  have h := (task_adds (owner w) H (fun | 0 => j)).w
  unfold lane
  rw [← owner_wk w]
  exact h.trans ((congrArg (· + _) zero_bits).trans (zero_add _))

omit H in
theorem parts_total (f : ℕ → ℝ) :
    ∑ n ∈ Finset.range 2621440, f n + ∑ n ∈ Finset.range 1572864, f (2621440 + n) = ∑ n ∈ Finset.range 4194304, f n :=
  (Finset.sum_range_add f 2621440 1572864).symm

/-- The kernel's numerator is the sum of the anchors' losses, -/
theorem lossSum_eq (j : S_.Idx) :
    lossSum (F := Ideal) x y j = ((∑ n ∈ Finset.range 4194304, lossOf (μ n) (δ n) : ℝ) : EReal) := by
  have h1 := total reducesTo_S32x16_S_d0_1 _ _ (sum_array (rowsOf (F := Ideal) fun L => (task (F := Ideal) L x y).1) (lane (fun n => lossOf (μ n) (δ n))) (rows_loss H)) j
  have h2 := total reducesTo_S1024x128_S_d0_1 _ _
    (sum_array _ (fun a b => ∑ t ∈ Finset.range 12, lossOf (μ (tcAnchor t a b)) (δ (tcAnchor t a b))) (accS_at H 11 last_lt)) j
  rw [lane_total] at h1
  rw [blocks_total fun n => lossOf (μ n) (δ n)] at h2
  rw [← parts_total, EReal.coe_add, ← h1, ← h2]; rfl
/-- and its denominator the sum of their weights. -/
theorem countSum_eq (j : S_.Idx) :
    countSum (F := Ideal) x y j = ((∑ n ∈ Finset.range 4194304, weight (μ n) : ℝ) : EReal) := by
  have h1 := total reducesTo_S32x16_S_d0_1 _ _ (sum_array (rowsOf (F := Ideal) fun L => (task (F := Ideal) L x y).2) (lane (fun n => weight (μ n))) (rows_count H)) j
  have h2 := total reducesTo_S1024x128_S_d0_1 _ _
    (sum_array _ (fun a b => ∑ t ∈ Finset.range 12, weight (μ (tcAnchor t a b))) (accN_at H 11 last_lt)) j
  rw [lane_total] at h1
  rw [blocks_total fun n => weight (μ n)] at h2
  rw [← parts_total, EReal.coe_add, ← h1, ← h2]; rfl

end Point

end Cert.Proof
end
-- ==== Proof.Ref.lean ====
module

public import proofs.«01_k».proof.Proof.SumsTc
public import proofs.«01_k».proof.Proof.Gen.ReferenceIdeal.Run
public import Idealize.ShloMosaic.Lib.ReduceAll

@[expose] public section

noncomputable section

namespace Cert.Proof.Ref

open Cert.ReferenceIdeal Cert.ReferenceIdeal.Gen
open Idealize.ShloMosaic Idealize.ShloMosaic.TcCoe

/-! ## The term -/

section Term
variable {F : FTy → Type} [FloatOps F]

/-- The matches, -/
def matches_ (a : FVec F S16x262144x1 .f32) : FVec F S16x262144 .f32 := shapeCast S16x262144 a shapeCasts_S16x262144x1_S16x262144
/-- 1 where an anchor counts, -/
def counts (a : FVec F S16x262144x1 .f32) : FVec F S16x262144 .f32 :=
  uitofp .f32 (cmpf .une (matches_ a) (broadcastInDim S16x262144 ![] bcast_S_S16x262144 (constant S_ .f32 0x00000000#32)))
/-- and the class of each anchor. -/
def classes (a : FVec F S16x262144x1 .f32) : IVec S16x262144x1 32 :=
  broadcastInDim S16x262144x1 ![0, 1] bcast_S16x262144_S16x262144x1_0_1
    (extui 32 (cmpf .oeq (matches_ a) (broadcastInDim S16x262144 ![] bcast_S_S16x262144 (constant S_ .f32 0x3F800000#32))) natLt_1_32)
/-- A value per anchor, for both its classes. -/
def both (x : FVec F S16x262144x1 .f32) : FVec F S16x262144x2 .f32 := broadcastInDim S16x262144x2 ![0, 1, 2] bcast_S16x262144x1_S16x262144x2_0_1_2 x
/-- A value per anchor with an axis kept for the class. -/
def kept (x : FVec F S16x262144 .f32) : FVec F S16x262144x1 .f32 := broadcastInDim S16x262144x1 ![0, 1] bcast_S16x262144_S16x262144x1_0_1 x
/-- The logits less the larger of their two, -/
def shifted (b : FVec F S16x262144x2 .f32) : FVec F S16x262144x2 .f32 :=
  subf b (both (kept (Host.reduce FloatOps.maximumf b (constant S_ .f32 0xFF800000#32) reducesTo_S16x262144x2_S16x262144_d2 h_S_)))
/-- and the sum of their exponentials. -/
def sumExp (b : FVec F S16x262144x2 .f32) : FVec F S16x262144x1 .f32 :=
  kept (Host.reduceAdd (Host.exp (shifted b)) (constant S_ .f32 0x00000000#32) reducesTo_S16x262144x2_S16x262144_d2 h_S_)
/-- The positions take_along_axis looks up: a negative class counts from the end. -/
def spots (c : IVec S16x262144x1 32) : IVec S16x262144x1x1 32 :=
  shapeCast S16x262144x1x1 (select (cmpi .slt c (broadcastInDim S16x262144x1 ![] bcast_S_S16x262144x1 (constantI S_ 32 0#32)))
    (addi c (broadcastInDim S16x262144x1 ![] bcast_S_S16x262144x1 (constantI S_ 32 2#32))) c) shapeCasts_S16x262144x1_S16x262144x1x1
/-- Where a position exists. -/
def inside (i : IVec S16x262144x1x1 32) : IVec S16x262144x1 1 :=
  Host.reduce IntOp.andi (andi (cmpi .sge i (broadcastInDim S16x262144x1x1 ![] bcast_S_S16x262144x1x1 (constantI S_ 32 0#32)))
    (cmpi .sle i (broadcastInDim S16x262144x1x1 ![0, 1, 2, 3] bcast_S1x1x1x1_S16x262144x1x1_0_1_2_3
      (broadcastInDim S1x1x1x1 ![3] bcast_S1_S1x1x1x1_3 (constantI S1 32 1#32))))) (constantI S_ 1 1#1) reducesTo_S16x262144x1x1_S16x262144x1_d3 h_S_
/-- take_along_axis. -/
def along (x : FVec F S16x262144x2 .f32) (c : IVec S16x262144x1 32) : FVec F S16x262144x1 .f32 :=
  select (inside (spots c)) (Host.gather gather_S16x262144x2_S16x262144x1x1_S16x262144x1_n_2_01_01_2_3_111 x (spots c))
    (broadcastInDim S16x262144x1 ![] bcast_S_S16x262144x1 (constant S_ .f32 0x7FC00000#32))
/-- Each anchor's weighted cross entropy, the logarithm being `lg`. -/
def terms (lg : FVec F S16x262144x1 .f32 → FVec F S16x262144x1 .f32) (a : FVec F S16x262144x1 .f32) (b : FVec F S16x262144x2 .f32) : FVec F S16x262144 .f32 :=
  mulf (Host.negf (shapeCast S16x262144 (along (subf (shifted b) (both (lg (sumExp b)))) (classes a)) shapeCasts_S16x262144x1_S16x262144)) (counts a)
/-- The loss. -/
def loss (lg : FVec F S16x262144x1 .f32 → FVec F S16x262144x1 .f32) (a : FVec F S16x262144x1 .f32) (b : FVec F S16x262144x2 .f32) : FVec F S_ .f32 :=
  mean (Host.reduceAdd (terms lg a b) (constant S_ .f32 0x00000000#32) reducesTo_S16x262144_S_d0_1 h_S_)
    (Host.reduceAdd (counts a) (constant S_ .f32 0x00000000#32) reducesTo_S16x262144_S_d0_1 h_S_)

/-- A constant for every anchor. -/
def every (w : BitVec 32) : FVec F S16x262144x1 .f32 := broadcastInDim S16x262144x1 ![] bcast_S_S16x262144x1 (constant S_ .f32 w)
/-- The quartic that stands for the logarithm. -/
def quarticOf (t : FVec F S16x262144x1 .f32) : FVec F S16x262144x1 .f32 :=
  addf (mulf (addf (mulf (subf (mulf (addf (mulf (every 0xBD60B74E#32) (subf t (every 0x3F800000#32))) (every 0x3E5D9A36#32)) (subf t (every 0x3F800000#32)))
    (every 0x3EED9AAD#32)) (subf t (every 0x3F800000#32))) (every 0x3F7ED448#32)) (subf t (every 0x3F800000#32))) (every 0x39147524#32)

set_option maxRecDepth 8192 in
/-- The reference's result is the loss with the quartic for its logarithm. -/
theorem result_eq (m : (ℓ : Loc nD τ sig) → Buf (Elt F) ℓ) (c : Dev nD) :
    Value.res_main_v41 m c = loss quarticOf (m ((c.tc : Thread nD τ).loc main_arg0)) (m ((c.tc : Thread nD τ).loc main_arg1)) := by
  unfold Value.res_main_v41; rfl

end Term

/-! ## Its value -/

section At
variable {p : Fin 16} {n : Fin 262144} {a : FVec Ideal S16x262144x1 .f32} {b : FVec Ideal S16x262144x2 .f32} {μ l₀ l₁ : ℝ}

theorem one_bits : Ideal.ofBits .f32 0x3F800000#32 = ((1 : ℝ) : EReal) := by
  simp [Ideal.ofBits, Ideal.ieee]
  rw [← EReal.coe_mul]; norm_num
theorem bot_bits : Ideal.ofBits .f32 0xFF800000#32 = ⊥ := by simp [Ideal.ofBits, Ideal.ieee]

theorem counts_at (ha : a (ix3 p n 0) = (μ : EReal)) (hμ : μ = -1 ∨ μ = 0 ∨ μ = 1) : counts (F := Ideal) a (ix2 p n) = ((weight μ : ℝ) : EReal) := by
  pointwise [counts, matches_]
  rw [ha]
  show (((BitVec.ofBool (decide ((μ : EReal) ≠ 0))).toNat : ℝ) : EReal) = _
  unfold weight
  rcases hμ with rfl | rfl | rfl <;> norm_num <;> rfl
theorem classes_at (ha : a (ix3 p n 0) = (μ : EReal)) : classes (F := Ideal) a (ix3 p n 0) = if μ = 1 then 1#32 else 0#32 := by
  pointwise [classes, matches_]
  rw [ha]
  by_cases h : μ = 1
  · subst h; simp
  · have h' : ¬((μ : EReal) = 1) := fun e => h (by exact_mod_cast e)
    simp [h, h']
theorem shifted_at (h₀ : b (ix3 p n 0) = (l₀ : EReal)) (h₁ : b (ix3 p n 1) = (l₁ : EReal)) (c : Fin 2) :
    shifted (F := Ideal) b (ix3 p n c) = b (ix3 p n c) - ((max l₀ l₁ : ℝ) : EReal) := by
  pointwise [shifted, both, kept]
  congr 1
  rw [bot_bits, coe_max, ← h₀, ← h₁]
  simp [Finset.fold, Fin.univ_succ]
  rw [Multiset.fold_singleton, max_bot_right]
theorem sumExp_at : sumExp (F := Ideal) b (ix3 p n 0) = Ideal.exp (shifted (F := Ideal) b (ix3 p n 0)) + Ideal.exp (shifted (F := Ideal) b (ix3 p n 1)) := by
  pointwise [sumExp, kept]
  exact Fin.sum_univ_two _
theorem spots_at (c : IVec S16x262144x1 32) (k : Fin 2) (hc : c (ix3 p n 0) = BitVec.ofNat 32 k.val) : spots c (ix4 p n 0 0) = BitVec.ofNat 32 k.val := by
  pointwise [spots]
  rw [hc]
  clear hc; revert k; decide
theorem inside_at (i : IVec S16x262144x1x1 32) (k : Fin 2) (hc : i (ix4 p n 0 0) = BitVec.ofNat 32 k.val) : inside i (ix3 p n 0) = 1#1 := by
  pointwise [inside]
  rw [Finset.univ_unique, Finset.fold_singleton]
  show IntOp.andi (IntOp.andi (IntOp.cmpi .sge (i (ix4 p n 0 0)) 0#32) (IntOp.cmpi .sle (i (ix4 p n 0 0)) 1#32)) 1#1 = 1#1
  rw [hc]
  clear hc; revert k; decide
/-- The lookup's dimension numbers. -/
abbrev gd : GatherDims S16x262144x2 S16x262144x1x1 S16x262144x1 := gather_S16x262144x2_S16x262144x1x1_S16x262144x1_n_2_01_01_2_3_111
theorem gather_at (x : FVec Ideal S16x262144x2 .f32) (i : IVec S16x262144x1x1 32) (k : Fin 2) (hc : i (ix4 p n 0 0) = BitVec.ofNat 32 k.val) :
    Host.gather gd x i (ix3 p n 0) = x (ix3 p n k) := by
  have off (a : Fin 3) : gd.offCoord (ix3 p n 0) a = 0 := GatherDims.offCoord_eq_zero _ _ _ (by revert a; decide)
  have hsi : gd.siIdx (ix3 p n 0) ⟨List.idxOf (2 : Fin 3) gd.startIndexMap, List.idxOf_lt_length_iff.2 (by decide)⟩ = ix4 p n 0 0 := by
    funext c
    refine Fin.ext ?_
    match c with
    | 0 => rfl
    | 1 => rfl
    | 2 => rfl
    | 3 => rfl
  have start2 : gd.start (ix3 p n 0) i (2 : Fin 3) = k.val := by
    unfold GatherDims.start
    rw [dif_pos (by decide), hsi, hc]
    clear hc; revert k; decide
  unfold Host.gather
  congr 1
  funext a
  refine Fin.ext ?_
  show gd.start (ix3 p n 0) i a + gd.batchCoord (ix3 p n 0) a + gd.offCoord (ix3 p n 0) a = _
  rw [off a]
  match a with
  | 0 =>
    rw [GatherDims.start_batching _ _ _ _ (by decide), Nat.zero_add]
    unfold GatherDims.batchCoord
    rw [dif_pos (by decide)]; rfl
  | 1 =>
    rw [GatherDims.start_batching _ _ _ _ (by decide), Nat.zero_add]
    unfold GatherDims.batchCoord
    rw [dif_pos (by decide)]; rfl
  | 2 =>
    rw [GatherDims.batchCoord_eq_zero _ _ _ (by decide)]
    exact start2

/-- take_along_axis reads the logit of the class. -/
theorem along_at (x : FVec Ideal S16x262144x2 .f32) (c : IVec S16x262144x1 32) (k : Fin 2) (hc : c (ix3 p n 0) = BitVec.ofNat 32 k.val) :
    along (F := Ideal) x c (ix3 p n 0) = x (ix3 p n k) := by
  have hs := spots_at c k hc
  unfold along
  show Scalar.select (inside (spots c) (ix3 p n 0)) (Host.gather gather_S16x262144x2_S16x262144x1x1_S16x262144x1_n_2_01_01_2_3_111 x (spots c) (ix3 p n 0)) _ = _
  rw [inside_at _ k hs, gather_at _ _ k hs]; rfl

/-- `lg` is the real function `g` where the sum of exponentials lies. -/
def Reads (lg : FVec Ideal S16x262144x1 .f32 → FVec Ideal S16x262144x1 .f32) (g : ℝ → ℝ) : Prop :=
  ∀ (v : FVec Ideal S16x262144x1 .f32) (j : S16x262144x1.Idx) (t : ℝ), 1 ≤ t → v j = (t : EReal) → lg v j = ((g t : ℝ) : EReal)

/-- The larger exponential is 1, the other `exp (-|d|)`. -/
theorem sum_exp (l₀ l₁ : ℝ) : Real.exp (l₀ - max l₀ l₁) + Real.exp (l₁ - max l₀ l₁) = 1 + Real.exp (-|l₁ - l₀|) := by
  rcases le_total l₀ l₁ with h | h
  · rw [max_eq_right h, abs_of_nonneg (by linarith), sub_self, Real.exp_zero, add_comm, neg_sub]
  · rw [max_eq_left h, abs_of_nonpos (by linarith), sub_self, Real.exp_zero, neg_neg]

/-- A weighted cross entropy, the logarithm being `g`. -/
def termOf (g : ℝ → ℝ) (m d : ℝ) : ℝ := m * m * (g (1 + Real.exp (-|d|)) - min (m * d) 0)

theorem weighted_at (z : FVec Ideal S16x262144x1 .f32) (w : FVec Ideal S16x262144 .f32) :
    mulf (F := Ideal) (Host.negf (shapeCast S16x262144 z shapeCasts_S16x262144x1_S16x262144)) w (ix2 p n) = -(z (ix3 p n 0)) * w (ix2 p n) := by
  pointwise
theorem less_at (x : FVec Ideal S16x262144x2 .f32) (v : FVec Ideal S16x262144x1 .f32) (k : Fin 2) :
    subf (F := Ideal) x (both v) (ix3 p n k) = x (ix3 p n k) - v (ix3 p n 0) := by
  pointwise [both]

/-- The algebra of one term: the class is 1 at a match of 1, else 0. -/
theorem term_real (s l₀ l₁ μ : ℝ) (hμ : μ = -1 ∨ μ = 0 ∨ μ = 1) :
    -((if μ = 1 then l₁ else l₀) - max l₀ l₁ - s) * weight μ = μ * μ * (s - min (μ * (l₁ - l₀)) 0) := by
  unfold weight
  rcases hμ with rfl | rfl | rfl
  · rw [if_neg (by norm_num)]
    rcases le_total l₀ l₁ with h | h
    · rw [max_eq_right h, min_eq_left (by linarith)]; ring
    · rw [max_eq_left h, min_eq_right (by linarith)]; ring
  · ring
  · rw [if_pos rfl]
    rcases le_total l₀ l₁ with h | h
    · rw [max_eq_right h, min_eq_right (by linarith)]; ring
    · rw [max_eq_left h, min_eq_left (by linarith)]; ring

theorem sumExp_real (h₀ : b (ix3 p n 0) = (l₀ : EReal)) (h₁ : b (ix3 p n 1) = (l₁ : EReal)) :
    sumExp (F := Ideal) b (ix3 p n 0) = ((1 + Real.exp (-|l₁ - l₀|) : ℝ) : EReal) := by
  rw [sumExp_at, shifted_at h₀ h₁, shifted_at h₀ h₁, h₀, h₁, ← EReal.coe_sub, ← EReal.coe_sub, Ideal.exp_coe, Ideal.exp_coe, ← EReal.coe_add, sum_exp]

theorem logp_at (v : FVec Ideal S16x262144x1 .f32) (s : ℝ) (hv : v (ix3 p n 0) = (s : EReal)) (ha : a (ix3 p n 0) = (μ : EReal))
    (h₀ : b (ix3 p n 0) = (l₀ : EReal)) (h₁ : b (ix3 p n 1) = (l₁ : EReal)) :
    along (F := Ideal) (subf (shifted b) (both v)) (classes a) (ix3 p n 0) = (((if μ = 1 then l₁ else l₀) - max l₀ l₁ - s : ℝ) : EReal) := by
  by_cases h1 : μ = 1
  · rw [along_at _ _ 1 ((classes_at ha).trans (if_pos h1)), less_at, shifted_at h₀ h₁, h₁, hv, if_pos h1, EReal.coe_sub, EReal.coe_sub]
  · rw [along_at _ _ 0 ((classes_at ha).trans (if_neg h1)), less_at, shifted_at h₀ h₁, h₀, hv, if_neg h1, EReal.coe_sub, EReal.coe_sub]

theorem terms_at {lg : FVec Ideal S16x262144x1 .f32 → FVec Ideal S16x262144x1 .f32} {g : ℝ → ℝ} (hg : Reads lg g)
    (ha : a (ix3 p n 0) = (μ : EReal)) (hμ : μ = -1 ∨ μ = 0 ∨ μ = 1) (h₀ : b (ix3 p n 0) = (l₀ : EReal)) (h₁ : b (ix3 p n 1) = (l₁ : EReal)) :
    terms (F := Ideal) lg a b (ix2 p n) = ((termOf g μ (l₁ - l₀) : ℝ) : EReal) := by
  have hl := hg _ _ _ (by linarith [Real.exp_pos (-|l₁ - l₀|)]) (sumExp_real h₀ h₁)
  unfold terms termOf
  rw [weighted_at, counts_at ha hμ, logp_at _ _ hl ha h₀ h₁, ← term_real _ _ _ _ hμ, EReal.coe_mul, EReal.coe_neg]

end At

/-! ## The totals -/

/-- What the arguments hold, anchor by anchor, in the order of the flat arrays. -/
structure Args (a : FVec Ideal S16x262144x1 .f32) (b : FVec Ideal S16x262144x2 .f32) (μ δ : ℕ → ℝ) : Prop where
  m : ∀ (p : Fin 16) (n : Fin 262144), a (ix3 p n 0) = ((μ (262144 * p.val + n.val) : ℝ) : EReal)
  r : ∀ (p : Fin 16) (n : Fin 262144), μ (262144 * p.val + n.val) = -1 ∨ μ (262144 * p.val + n.val) = 0 ∨ μ (262144 * p.val + n.val) = 1
  d : ∀ (p : Fin 16) (n : Fin 262144), ∃ l₀ l₁ : ℝ, b (ix3 p n 0) = (l₀ : EReal) ∧ b (ix3 p n 1) = (l₁ : EReal) ∧ δ (262144 * p.val + n.val) = l₁ - l₀

section Totals
variable {a : FVec Ideal S16x262144x1 .f32} {b : FVec Ideal S16x262144x2 .f32} {μ δ : ℕ → ℝ} (H : Args a b μ δ)
include H

/-- The mean of real sums, as a real. -/
def meanOf (s n : ℝ) : ℝ := if 0 < n then s / max n 1 else 0

theorem counts_total (j : S_.Idx) : Host.reduceAdd (F := Ideal) (counts a) (constant S_ .f32 0x00000000#32) reducesTo_S16x262144_S_d0_1 h_S_ j
    = ((∑ n ∈ Finset.range 4194304, weight (μ n) : ℝ) : EReal) := by
  have h := total reducesTo_S16x262144_S_d0_1 _ _
    (sum_array (counts (F := Ideal) a) (fun p n => (fun n => weight (μ n)) (262144 * p + n)) fun p n => counts_at (H.m p n) (H.r p n)) j
  rw [sum_blocks 16 262144 fun n => weight (μ n)] at h
  exact h

theorem terms_total {lg : FVec Ideal S16x262144x1 .f32 → FVec Ideal S16x262144x1 .f32} {g : ℝ → ℝ} (hg : Reads lg g) (j : S_.Idx) :
    Host.reduceAdd (F := Ideal) (terms lg a b) (constant S_ .f32 0x00000000#32) reducesTo_S16x262144_S_d0_1 h_S_ j
    = ((∑ n ∈ Finset.range 4194304, termOf g (μ n) (δ n) : ℝ) : EReal) := by
  have h := total reducesTo_S16x262144_S_d0_1 _ _
    (sum_array (terms (F := Ideal) lg a b) (fun p n => (fun n => termOf g (μ n) (δ n)) (262144 * p + n)) fun p n => by
      obtain ⟨l₀, l₁, h₀, h₁, hd⟩ := H.d p n
      show _ = ((termOf g (μ (262144 * p.val + n.val)) (δ (262144 * p.val + n.val)) : ℝ) : EReal)
      rw [hd]
      exact terms_at hg (H.m p n) (H.r p n) h₀ h₁) j
  rw [sum_blocks 16 262144 fun n => termOf g (μ n) (δ n)] at h
  exact h

omit H in
theorem mean_coe (s n : FVec Ideal S_ .f32) (j : S_.Idx) (s' n' : ℝ) (hs : s j = (s' : EReal)) (hn : n j = (n' : EReal)) :
    mean (F := Ideal) s n j = ((meanOf s' n' : ℝ) : EReal) := by
  have e : mean (F := Ideal) s n j = Scalar.select (Ideal.cmp .ogt (n j) (Ideal.ofBits .f32 0x00000000#32))
      (Ideal.div (s j) (max (n j) (Ideal.ofBits .f32 0x3F800000#32))) (Ideal.ofBits .f32 0x00000000#32) := rfl
  rw [e, hs, hn, zero_bits, one_bits, ← coe_max, Ideal.div_coe (by have := le_max_right n' 1; intro h; linarith)]
  unfold meanOf
  by_cases h : 0 < n'
  · rw [if_pos h]; simp [Ideal.cmp, h, Scalar.select]; rw [← EReal.coe_mul, div_eq_mul_inv]
  · rw [if_neg h]; simp [Ideal.cmp, h, Scalar.select]

theorem loss_eq {lg : FVec Ideal S16x262144x1 .f32 → FVec Ideal S16x262144x1 .f32} {g : ℝ → ℝ} (hg : Reads lg g) (j : S_.Idx) :
    loss (F := Ideal) lg a b j
      = ((meanOf (∑ n ∈ Finset.range 4194304, termOf g (μ n) (δ n)) (∑ n ∈ Finset.range 4194304, weight (μ n)) : ℝ) : EReal) :=
  mean_coe _ _ j _ _ (terms_total H hg j) (counts_total H j)

end Totals

/-! ## The two logarithms -/

theorem quarticOf_reads : Reads (quarticOf (F := Ideal)) fun t => quartic (t - 1) := by
  intro v j t _ h
  have e : quarticOf (F := Ideal) v j = (((Ideal.ofBits .f32 0xBD60B74E#32 * (v j - Ideal.ofBits .f32 0x3F800000#32) + Ideal.ofBits .f32 0x3E5D9A36#32) * (v j - Ideal.ofBits .f32 0x3F800000#32)
      - Ideal.ofBits .f32 0x3EED9AAD#32) * (v j - Ideal.ofBits .f32 0x3F800000#32) + Ideal.ofBits .f32 0x3F7ED448#32) * (v j - Ideal.ofBits .f32 0x3F800000#32)
      + Ideal.ofBits .f32 0x39147524#32 := rfl
  rw [e, h, one_bits, ← EReal.coe_sub, c4, c3, c2', c1, c0]
  unfold quartic
  push_cast
  rfl

theorem log_reads : Reads (Host.log (F := Ideal)) Real.log := by
  intro v j t ht h
  have e : Host.log (F := Ideal) v j = Ideal.log (v j) := rfl
  rw [e, h, Ideal.log_coe, if_neg (by linarith)]

end Cert.Proof.Ref
end
-- ==== Proof.Points.lean ====
/- The real numbers the arguments hold, and the two losses of them. -/
module

public import proofs.«01_k».proof.Proof.Ref
public import proofs.«01_k».proof.Proof.Gen.Pre_in_range

@[expose] public section

noncomputable section

namespace Cert.Proof

open Cert.KernelIdeal Cert.KernelIdeal.Gen
open Idealize.ShloMosaic Idealize.ShloMosaic.TcCoe

variable (a : FVec Ideal S16x262144x1 .f32) (b : FVec Ideal S16x262144x2 .f32)

/-! ## The flat arrays, anchor by anchor -/

theorem flatM_at (p : Fin 16) (n : Fin 262144) : mAt (flatM (F := Ideal) a) (262144 * p.val + n.val) = a (ix3 p n 0) := by
  have e : (⟨(262144 * p.val + n.val) % 4194304, Nat.mod_lt _ (by norm_num)⟩ : Fin 4194304) = ⟨262144 * p.val + n.val, by omega⟩ :=
    Fin.ext (by show (262144 * p.val + n.val) % 4194304 = 262144 * p.val + n.val; omega)
  unfold mAt
  rw [e]
  pointwise [flatM]

theorem flatL_at (p : Fin 16) (n : Fin 262144) (c : Fin 2) : lAt (flatL (F := Ideal) b) c.val (262144 * p.val + n.val) = b (ix3 p n c) := by
  have hn := n.isLt
  unfold lAt flatL
  rw [shapeCast_apply _ _ _ (ix4 p ⟨n.val / 128, by omega⟩ c ⟨n.val % 128, Nat.mod_lt _ (by norm_num)⟩ : S16x2048x2x128.Idx) (by
    rw [Shape.rowMajor_val_one, Shape.rowMajor_val_four]
    show ((p.val * 2048 + n.val / 128) * 2 + c.val) * 128 + n.val % 128
      = ((262144 * p.val + n.val) / 128 * 256 + 128 * c.val + (262144 * p.val + n.val) % 128) % 8388608
    omega)]
  pointwise

/-! ## What the precondition says -/

theorem neg_one_bits : Ideal.ofBits .f32 0xBF800000#32 = ((-1 : ℝ) : EReal) := by
  simp [Ideal.ofBits, Ideal.ieee, -EReal.coe_mul]; norm_num
theorem inf_bits : Ideal.ofBits .f32 0x7F800000#32 = ⊤ := by simp [Ideal.ofBits, Ideal.ieee]

theorem one_of_or {u v : BitVec 1} (h : IntOp.ori u v = 1#1) : u = 1#1 ∨ v = 1#1 := by
  revert u v; decide
theorem of_bool {q : Prop} [Decidable q] (h : BitVec.ofBool (decide q) = 1#1) : q := by
  by_contra hq; simp [hq] at h

variable {a b}

theorem pre_m (h : Cert.Pre_in_range.fn (F := Ideal) a b = fun _ => 1#1) (p : Fin 16) (n : Fin 262144) :
    ∃ r : ℝ, a (ix3 p n 0) = (r : EReal) ∧ (r = -1 ∨ r = 0 ∨ r = 1) := by
  have h0 := (IntOp.andi_eq_one.1 (congrFun h default)).1
  have h1 := Host.reduce_andi_all _ _ _ _ _ h0 (ix3 p n 0)
  pointwise at h1
  rcases one_of_or h1 with h2 | h2
  · rcases one_of_or h2 with h3 | h3
    · exact ⟨-1, (of_bool h3).trans neg_one_bits, .inl rfl⟩
    · exact ⟨0, of_bool h3, .inr (.inl rfl)⟩
  · exact ⟨1, of_bool h2, .inr (.inr rfl)⟩

theorem pre_l (h : Cert.Pre_in_range.fn (F := Ideal) a b = fun _ => 1#1) (p : Fin 16) (n : Fin 262144) (c : Fin 2) :
    ∃ l : ℝ, b (ix3 p n c) = (l : EReal) := by
  have h0 := (IntOp.andi_eq_one.1 (congrFun h default)).2
  have h1 := Host.reduce_andi_all _ _ _ _ _ h0 (ix3 p n c)
  pointwise at h1
  have h2 := of_bool h1
  rw [inf_bits] at h2
  have h3 : max (b (ix3 p n c)) (-(b (ix3 p n c))) < ⊤ := h2
  obtain ⟨h4, h5⟩ := max_lt_iff.1 h3
  refine ⟨(b (ix3 p n c)).toReal, (EReal.coe_toReal h4.ne fun hb => ?_).symm⟩
  rw [hb] at h5
  exact absurd h5 (by simp)

/-! ## The reals of the arguments -/

/-- The matches in flat order, -/
def mus (a : FVec Ideal S16x262144x1 .f32) (n : ℕ) : ℝ := (mAt (flatM (F := Ideal) a) n).toReal
/-- and the differences of the two logits. -/
def dels (b : FVec Ideal S16x262144x2 .f32) (n : ℕ) : ℝ := (lAt (flatL (F := Ideal) b) 1 n).toReal - (lAt (flatL (F := Ideal) b) 0 n).toReal

theorem args (h : Cert.Pre_in_range.fn (F := Ideal) a b = fun _ => 1#1) : Ref.Args a b (mus a) (dels b) where
  m p n := by
    obtain ⟨r, hr, _⟩ := pre_m h p n
    unfold mus; rw [flatM_at, hr, EReal.toReal_coe]
  r p n := by
    obtain ⟨r, hr, hv⟩ := pre_m h p n
    unfold mus; rw [flatM_at, hr, EReal.toReal_coe]; exact hv
  d p n := by
    obtain ⟨l₀, h₀⟩ := pre_l h p n 0
    obtain ⟨l₁, h₁⟩ := pre_l h p n 1
    refine ⟨l₀, l₁, h₀, h₁, ?_⟩
    have e₀ := (flatL_at b p n 0).trans h₀
    have e₁ := (flatL_at b p n 1).trans h₁
    unfold dels
    exact congrArg₂ (fun u v : EReal => u.toReal - v.toReal) e₁ e₀

/-- Every anchor is one of a row. -/
theorem split_anchor (n : ℕ) (hn : n < 4194304) : ∃ (p : Fin 16) (k : Fin 262144), n = 262144 * p.val + k.val :=
  ⟨⟨n / 262144, by omega⟩, ⟨n % 262144, Nat.mod_lt _ (by norm_num)⟩, (Nat.div_add_mod n 262144).symm⟩

theorem holds (h : Cert.Pre_in_range.fn (F := Ideal) a b = fun _ => 1#1) : Holds (flatM (F := Ideal) a) (flatL (F := Ideal) b) (mus a) (dels b) where
  m n hn := by
    obtain ⟨p, k, rfl⟩ := split_anchor n hn
    rw [flatM_at]; exact (args h).m p k
  d n hn := by
    obtain ⟨p, k, rfl⟩ := split_anchor n hn
    obtain ⟨l₀, l₁, h₀, h₁, hd⟩ := (args h).d p k
    exact ⟨l₀, l₁, (flatL_at b p k 0).trans h₀, (flatL_at b p k 1).trans h₁, hd⟩

/-! ## The two losses -/

/-- The loss of the arguments, the logarithm being `g`. -/
def lossWith (g : ℝ → ℝ) (a : FVec Ideal S16x262144x1 .f32) (b : FVec Ideal S16x262144x2 .f32) : ℝ :=
  Ref.meanOf (∑ n ∈ Finset.range 4194304, Ref.termOf g (mus a n) (dels b n)) (∑ n ∈ Finset.range 4194304, weight (mus a n))

/-- The kernel computes the loss with the quartic for its logarithm. -/
theorem kernel_loss (h : Cert.Pre_in_range.fn (F := Ideal) a b = fun _ => 1#1) (j : S_.Idx) :
    mean (F := Ideal) (lossSum (flatM a) (flatL b)) (countSum (flatM a) (flatL b)) j = ((lossWith (fun t => quartic (t - 1)) a b : ℝ) : EReal) := by
  refine (Ref.mean_coe _ _ j _ _ (lossSum_eq (holds h) j) (countSum_eq (holds h) j)).trans ?_
  unfold lossWith Ref.termOf lossOf
  simp only [add_sub_cancel_left]

/-- The reference's loss at a logarithm. -/
theorem ref_loss (h : Cert.Pre_in_range.fn (F := Ideal) a b = fun _ => 1#1)
    {lg : FVec Ideal S16x262144x1 .f32 → FVec Ideal S16x262144x1 .f32} {g : ℝ → ℝ} (hg : Ref.Reads lg g) (j : S_.Idx) :
    Ref.loss (F := Ideal) lg a b j = ((lossWith g a b : ℝ) : EReal) := Ref.loss_eq (args h) hg j

end Cert.Proof
end
-- ==== Proof.Log.lean ====
/- How near the quartic comes to the logarithm: `log (1 + e)` is twice the area tangent of `e / (2 + e)`, whose
series leaves an inequality of polynomials, settled piece by piece on whole numbers. -/
module

public import proofs.«01_k».proof.Proof.Scalar
public import Mathlib.Analysis.SpecialFunctions.ExpDeriv
public import Mathlib.Analysis.SpecialFunctions.Log.Basic
public import Mathlib.Analysis.Calculus.MeanValue
public import Mathlib.Analysis.Calculus.Deriv.Inverse

@[expose] public section

noncomputable section

namespace Cert.Proof

/-! ## Where a polynomial with whole coefficients is not negative

A polynomial is the list of its coefficients, the constant one first. -/

/-- The value at a real number. -/
def valueAt : List ℤ → ℝ → ℝ
  | [], _ => 0
  | c :: cs, x => c + x * valueAt cs x
/-- No value on `[0, 1]` is less than this. -/
def floorOf : List ℤ → ℤ
  | [] => 0
  | c :: cs => c + min 0 (floorOf cs)
/-- The sum, -/
def plus : List ℤ → List ℤ → List ℤ
  | [], ys => ys
  | xs, [] => xs
  | x :: xs, y :: ys => (x + y) :: plus xs ys
/-- and the polynomial moved one to the left. -/
def moved : List ℤ → List ℤ
  | [] => []
  | c :: cs => plus [c] (plus (moved cs) (0 :: moved cs))
/-- No value on `[0, n]` is negative, found unit interval by unit interval. -/
def clear : ℕ → List ℤ → Bool
  | 0, _ => true
  | n + 1, cs => decide (0 ≤ floorOf cs) && clear n (moved cs)

theorem floorOf_le (cs : List ℤ) {x : ℝ} (h0 : 0 ≤ x) (h1 : x ≤ 1) : (floorOf cs : ℝ) ≤ valueAt cs x := by
  induction cs with
  | nil => simp [floorOf, valueAt]
  | cons c cs ih =>
    have h : (min 0 (floorOf cs : ℝ)) ≤ x * valueAt cs x := by
      rcases le_total 0 (floorOf cs : ℝ) with p | p
      · rw [min_eq_left p]; exact mul_nonneg h0 (p.trans ih)
      · rw [min_eq_right p]; nlinarith
    simp only [floorOf, valueAt]
    push_cast
    linarith

theorem valueAt_plus (xs ys : List ℤ) (x : ℝ) : valueAt (plus xs ys) x = valueAt xs x + valueAt ys x := by
  induction xs generalizing ys with
  | nil => simp [plus, valueAt]
  | cons a xs ih =>
    cases ys with
    | nil => simp [plus, valueAt]
    | cons b ys => simp only [plus, valueAt, ih]; push_cast; ring

theorem valueAt_moved (cs : List ℤ) (x : ℝ) : valueAt (moved cs) x = valueAt cs (x + 1) := by
  induction cs with
  | nil => rfl
  | cons c cs ih => simp only [moved, valueAt_plus, valueAt, ih]; push_cast; ring

theorem nonneg_of_clear (n : ℕ) (cs : List ℤ) (h : clear n cs = true) {x : ℝ} (h0 : 0 ≤ x) (hn : x ≤ n) (hx : 0 < n) : 0 ≤ valueAt cs x := by
  induction n generalizing cs x with
  | zero => exact absurd hx (lt_irrefl 0)
  | succ n ih =>
    simp only [clear, Bool.and_eq_true, decide_eq_true_eq] at h
    rcases le_total x 1 with p | p
    · exact (Int.cast_nonneg (R := ℝ) h.1).trans (floorOf_le cs h0 p)
    · rcases Nat.eq_zero_or_pos n with rfl | q
      · have e : x = 1 := le_antisymm (by simpa using hn) p
        exact (Int.cast_nonneg (R := ℝ) h.1).trans (floorOf_le cs h0 e.le)
      · have e := ih (moved cs) h.2 (x := x - 1) (by linarith) (by push_cast at hn; linarith) q
        rwa [valueAt_moved, sub_add_cancel] at e

/-! ## The two polynomials -/

/-- The series of `log (1 + u)` in `t = u / (2 + u)`, to its fifth term. -/
def series (t : ℝ) : ℝ := 2 * (t + t ^ 3 / 3 + t ^ 5 / 5 + t ^ 7 / 7 + t ^ 9 / 9)

theorem series_deriv (t : ℝ) : HasDerivAt series (2 * (1 + t ^ 2 + t ^ 4 + t ^ 6 + t ^ 8)) t := by
  have p (k : ℕ) := (hasDerivAt_pow (𝕜 := ℝ) k t).div_const (k : ℝ)
  have h := (((((hasDerivAt_id' t).add (p 3)).add (p 5)).add (p 7)).add (p 9)).const_mul 2
  refine h.congr_deriv ?_
  norm_num

theorem log_deriv {x : ℝ} (hx : 0 < x) : HasDerivAt Real.log x⁻¹ x := by
  have h := Real.hasDerivAt_exp (Real.log x)
  rw [Real.exp_log hx] at h
  exact h.of_local_left_inverse (Real.continuousAt_log hx.ne') hx.ne'
    (Filter.mem_of_superset (lt_mem_nhds hx) fun y hy => Real.exp_log hy)

/-- What the series leaves out grows at the rate `t ^ 10 / (1 + u)`. -/
theorem rest_deriv {u : ℝ} (h0 : 0 ≤ u) :
    HasDerivAt (fun u => Real.log (1 + u) - series (u / (2 + u))) ((u / (2 + u)) ^ 10 / (1 + u)) u := by
  have hp : 2 + u ≠ 0 := by linarith
  have hq : 1 + u ≠ 0 := by linarith
  have a := (log_deriv (by linarith : 0 < 1 + u)).comp u ((hasDerivAt_id' u).const_add 1)
  have b := (series_deriv (u / (2 + u))).comp u ((hasDerivAt_id' u).div ((hasDerivAt_id' u).const_add 2) hp)
  refine (a.sub b).congr_deriv ?_
  field_simp
  ring

theorem series_le {u : ℝ} (h0 : 0 ≤ u) (h1 : u ≤ 1) :
    series (u / (2 + u)) ≤ Real.log (1 + u) ∧ Real.log (1 + u) ≤ series (u / (2 + u)) + 17 / 1000000 := by
  rcases h0.eq_or_lt with rfl | hu
  · norm_num [series]
  obtain ⟨c, ⟨c0, c1⟩, hc⟩ := exists_hasDerivAt_eq_slope _ _ hu
    (fun x hx => (rest_deriv hx.1).continuousAt.continuousWithinAt) fun x hx => rest_deriv hx.1.le
  have t0 : 0 ≤ c / (2 + c) := div_nonneg c0.le (by linarith)
  have t1 : c / (2 + c) ≤ 1 / 3 := by rw [div_le_iff₀ (by linarith)]; linarith
  have lo : 0 ≤ (c / (2 + c)) ^ 10 / (1 + c) := div_nonneg (pow_nonneg t0 10) (by linarith)
  have hi : (c / (2 + c)) ^ 10 / (1 + c) ≤ 17 / 1000000 := by
    have p : (c / (2 + c)) ^ 10 ≤ (1 / 3) ^ 10 := pow_le_pow_left₀ t0 t1 _
    rw [div_le_iff₀ (by linarith)]
    norm_num at p ⊢
    linarith
  have z : series (0 / (2 + 0)) = 0 := by norm_num [series]
  rw [hc] at lo hi
  simp only [z, add_zero, Real.log_one, sub_zero] at lo hi
  rw [le_div_iff₀ hu] at lo
  rw [div_le_iff₀ hu] at hi
  constructor <;> linarith

/-- `2 ^ 36 * 315 * (2 + u) ^ 9` times `11 / 2 ^ 16` and the quartic less the series, in `u`, -/
def above : List ℤ := [3429401794560, -35254429701120, 200981418301440, 75874065792000, -590101338919680, -351802782124416,
  670943999338368, 785371703990976, 48131029662552, -382250412154036, -282758842920960, -96736416860160, -16692002933760, -1187584473600]
/-- and the same times `11 / 2 ^ 16` and the series less the quartic. -/
def below : List ℤ := [291113625600, 51996749091840, -167496779520000, -36808653880320, 619400397853440, 366452311591296,
  -666060822849408, -784325309029056, -48000230292312, 382257678785716, 282758842920960, 96736416860160, 16692002933760, 1187584473600]

/-- The polynomial whose variable is 32 times the other's. -/
def stretched : List ℤ → List ℤ
  | [] => []
  | c :: cs => c * 32 ^ cs.length :: stretched cs

theorem valueAt_stretched (cs : List ℤ) (x : ℝ) : 32 * valueAt (stretched cs) (32 * x) = 32 ^ cs.length * valueAt cs x := by
  induction cs with
  | nil => simp [stretched, valueAt]
  | cons c cs ih =>
    simp only [stretched, valueAt, List.length_cons, pow_succ]
    push_cast
    linear_combination (32 * x) * ih

theorem nonneg_of_stretched (cs : List ℤ) (h : clear 32 (stretched cs) = true) {u : ℝ} (h0 : 0 ≤ u) (h1 : u ≤ 1) : 0 ≤ valueAt cs u := by
  have p := nonneg_of_clear 32 (stretched cs) h (x := 32 * u) (by linarith) (by push_cast; linarith) (by norm_num)
  have e := valueAt_stretched cs u
  exact nonneg_of_mul_nonneg_right (a := (32 : ℝ) ^ cs.length) (by linarith) (by positivity)

theorem above_clear : clear 32 (stretched above) = true := by decide +kernel
theorem below_clear : clear 32 (stretched below) = true := by decide +kernel

theorem quartic_series {u : ℝ} (h0 : 0 ≤ u) (h1 : u ≤ 1) : |quartic u - series (u / (2 + u))| ≤ 11 / 2 ^ 16 := by
  have hp : 0 < 2 + u := by linarith
  have hne : 2 + u ≠ 0 := hp.ne'
  have hk : (0 : ℝ) < 2 ^ 36 * 315 * (2 + u) ^ 9 := by positivity
  have a := nonneg_of_stretched above above_clear h0 h1
  have b := nonneg_of_stretched below below_clear h0 h1
  have ea : valueAt above u = 2 ^ 36 * 315 * (2 + u) ^ 9 * (11 / 2 ^ 16 + (quartic u - series (u / (2 + u)))) := by
    simp only [valueAt, above, quartic, series]; push_cast; field_simp; ring
  have eb : valueAt below u = 2 ^ 36 * 315 * (2 + u) ^ 9 * (11 / 2 ^ 16 - (quartic u - series (u / (2 + u)))) := by
    simp only [valueAt, below, quartic, series]; push_cast; field_simp; ring
  have a' := nonneg_of_mul_nonneg_right (ea ▸ a) hk
  have b' := nonneg_of_mul_nonneg_right (eb ▸ b) hk
  rw [abs_le]
  constructor <;> linarith

/-- The quartic is within `19 / 100000` of the logarithm. -/
theorem quartic_near {u : ℝ} (h0 : 0 ≤ u) (h1 : u ≤ 1) : |quartic u - Real.log (1 + u)| ≤ 19 / 100000 := by
  obtain ⟨p, q⟩ := series_le h0 h1
  obtain ⟨r, s⟩ := abs_le.1 (quartic_series h0 h1)
  rw [abs_le]
  norm_num at r s
  constructor <;> linarith

end Cert.Proof
end
-- ==== Proof.Near.lean ====
/- The loss with the quartic for its logarithm lies near the exact loss. -/
module

public import proofs.«01_k».proof.Proof.Points
public import proofs.«01_k».proof.Proof.Log
public import proofs.«01_k».proof.Proof.Gen.Post_near_exact

@[expose] public section

noncomputable section

namespace Cert.Proof

open Cert.KernelIdeal Cert.KernelIdeal.Gen
open Idealize.ShloMosaic

/-- One anchor's two losses, -/
theorem term_near (m d : ℝ) :
    |Ref.termOf (fun t => quartic (t - 1)) m d - Ref.termOf Real.log m d| ≤ 19 / 100000 * weight m := by
  have h := quartic_near (Real.exp_pos (-|d|)).le (Real.exp_le_one_iff.2 (neg_nonpos.2 (abs_nonneg d)))
  have e : Ref.termOf (fun t => quartic (t - 1)) m d - Ref.termOf Real.log m d
      = m * m * (quartic (Real.exp (-|d|)) - Real.log (1 + Real.exp (-|d|))) := by
    simp only [Ref.termOf, add_sub_cancel_left]; ring
  rw [e, abs_mul, abs_mul_self, mul_comm]
  exact mul_le_mul_of_nonneg_right h (mul_self_nonneg m)

/-- and the quotients of two sums that differ by at most so much for each that counts. -/
theorem meanOf_near {s s' n ε : ℝ} (hε : 0 ≤ ε) (h : |s - s'| ≤ ε * n) : |Ref.meanOf s n - Ref.meanOf s' n| ≤ ε := by
  unfold Ref.meanOf
  by_cases hn : 0 < n
  · have hp : 0 < max n 1 := hn.trans_le (le_max_left n 1)
    rw [if_pos hn, if_pos hn, ← sub_div, abs_div, abs_of_pos hp, div_le_iff₀ hp]
    exact h.trans (mul_le_mul_of_nonneg_left (le_max_left n 1) hε)
  · rw [if_neg hn, if_neg hn]; simpa using hε

theorem lossWith_near (a : FVec Ideal S16x262144x1 .f32) (b : FVec Ideal S16x262144x2 .f32) :
    |lossWith (fun t => quartic (t - 1)) a b - lossWith Real.log a b| ≤ 19 / 100000 := by
  refine meanOf_near (by norm_num) ?_
  rw [← Finset.sum_sub_distrib, Finset.mul_sum]
  exact (Finset.abs_sum_le_sum_abs _ _).trans (Finset.sum_le_sum fun n _ => term_near _ _)

/-- The bound of `near_exact`, `2e-4` rounded to a float. -/
theorem bound_bits : Ideal.ofBits .f32 0x3951B717#32 = ((13743895 / 2 ^ 36 : ℝ) : EReal) := by
  simp [Ideal.ofBits, Ideal.ieee, -EReal.coe_mul]; norm_num

/-- `near_exact` compares a result with the exact loss. -/
theorem near_exact_eq (a : FVec Ideal S16x262144x1 .f32) (b : FVec Ideal S16x262144x2 .f32) (v : FVec Ideal S_ .f32) :
    Cert.Post_near_exact.fn (F := Ideal) a b v
      = cmpf .ole (Host.absf (subf v (Ref.loss (F := Ideal) Host.log a b))) (constant S_ .f32 0x3951B717#32) := rfl

/-- It holds of the loss with the quartic. -/
theorem near_exact {a : FVec Ideal S16x262144x1 .f32} {b : FVec Ideal S16x262144x2 .f32}
    (h : Cert.Pre_in_range.fn (F := Ideal) a b = fun _ => 1#1) {v : FVec Ideal S_ .f32}
    (hv : ∀ j, v j = ((lossWith (fun t => quartic (t - 1)) a b : ℝ) : EReal)) :
    Cert.Post_near_exact.fn (F := Ideal) a b v = fun _ => 1#1 := by
  rw [near_exact_eq]
  funext j
  have e : cmpf (F := Ideal) .ole (Host.absf (subf v (Ref.loss (F := Ideal) Host.log a b))) (constant S_ .f32 0x3951B717#32) j
      = Ideal.cmp .ole (max (v j - Ref.loss (F := Ideal) Host.log a b j) (-(v j - Ref.loss (F := Ideal) Host.log a b j)))
        (Ideal.ofBits .f32 0x3951B717#32) := rfl
  have l := lossWith_near a b
  rw [e, hv, ref_loss h Ref.log_reads, ← EReal.coe_sub, coe_abs, bound_bits]
  have p : |lossWith (fun t => quartic (t - 1)) a b - lossWith Real.log a b| ≤ 13743895 / 2 ^ 36 := l.trans (by norm_num)
  simp only [Ideal.cmp, EReal.coe_le_coe_iff, p, decide_true]; rfl

end Cert.Proof
end
-- ==== Proof.lean ====
/- Everything claimed of the kernel, put together. -/
module

public import proofs.«01_k».proof.Defs
public import proofs.«01_k».proof.Proof.Frames
public import proofs.«01_k».proof.Proof.Near
public import Idealize.ShloMosaic.Adequacy
public import Idealize.ShloMosaic.Init

@[expose] public section

noncomputable section

namespace Cert.Proof

open Idealize.ShloMosaic Idealize.SL.Sem Cert.KernelIdeal

variable (m : (ℓ : Loc nD τ sig) → Buf (Elt Ideal) ℓ)

/-- Where the precondition holds, the kernel's result is the loss with the quartic for its logarithm. -/
theorem result_at (h : Cert.Pre_KernelIdeal_in_range m) (c : Dev nD) (j : S_.Idx) :
    V5 (F := Ideal) m c res' j = ((lossWith (fun t => quartic (t - 1)) (m (c, a0)) (m (c, a1)) : ℝ) : EReal) := by
  rw [V5_res, Xv_eq, Yv_eq]
  exact kernel_loss (h c) j

theorem algebraic : Cert.algebraic_KernelIdeal_ReferenceIdeal_pre_in_range := fun m ρ m' ρ' h hm => by
  refine ⟨fun c => V5 (F := Ideal) m c res', (θ_run defs _ _).mono (fun _ r => r.1) (run_main (F := Ideal) m ρ),
    (θ_run Cert.ReferenceIdeal.defs _ _).mono (fun r q c => ⟨(q c).1.trans ?_, (q c).2⟩) (Cert.ReferenceIdeal.Value.run (F := Ideal) m' ρ')⟩
  rw [Ref.result_eq]
  erw [(hm c).1, (hm c).2]
  funext j
  exact (ref_loss (h c) Ref.quarticOf_reads j).trans (result_at m h c j).symm

theorem near : Cert.holds_KernelIdeal_near_exact_pre_in_range := fun m ρ h =>
  (θ_run defs _ _).mono (fun _ q c => ⟨(q.1 c).2.1, (q.1 c).2.2,
    near_exact (h c) fun j => (congrFun (q.1 c).1 j).trans (result_at m h c j)⟩) (run_main (F := Ideal) m ρ)

theorem claim : Cert.Claim := ⟨Cert.Kernel.Gen.facts, Cert.KernelIdeal.Gen.facts, Cert.ReferenceIdeal.Gen.facts,
  Cert.Pre_in_range.Gen.facts, Cert.Post_near_exact.Gen.facts,
  frame_kernel, fun m ρ _ => frame_ideal m ρ, fun m ρ _ => frame_ideal m ρ, fun m ρ _ => frame_reference m ρ,
  fun m ρ _ => frame_reference m ρ, preserves, algebraic, near⟩

end Cert.Proof

end
